-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routable_KernelIdeal [hPre_routable_KernelIdeal : Cert.Pre_routable_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routable_ReferenceIdeal [hPre_routable_ReferenceIdeal : Cert.Pre_routable_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routable_KernelIdeal [hKernelIdeal : Cert.KernelIdeal.Facts] [hPre_routable_KernelIdeal : Cert.Pre_routable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routable_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routable_ReferenceIdeal [hReferenceIdeal : Cert.ReferenceIdeal.Facts] [hPre_routable_ReferenceIdeal : Cert.Pre_routable_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routable_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routable_KernelIdeal [hKernelIdeal : Cert.KernelIdeal.Facts] [hReferenceIdeal : Cert.ReferenceIdeal.Facts] [hPre_routable_KernelIdeal : Cert.Pre_routable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routable_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 512]⟩ ⟨2, ![512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routable_KernelIdeal : Cert.Pre_routable_KernelIdeal.Facts) (hPre_routable_ReferenceIdeal : Cert.Pre_routable_ReferenceIdeal.Facts),
    quiescent_Kernel (hKernel := hKernel)
    ∧ quiescent_KernelIdeal (hKernelIdeal := hKernelIdeal)
    ∧ quiescent_KernelIdeal_pre_routable_KernelIdeal (hKernelIdeal := hKernelIdeal) (hPre_routable_KernelIdeal := hPre_routable_KernelIdeal)
    ∧ quiescent_ReferenceIdeal (hReferenceIdeal := hReferenceIdeal)
    ∧ quiescent_ReferenceIdeal_pre_routable_ReferenceIdeal (hReferenceIdeal := hReferenceIdeal) (hPre_routable_ReferenceIdeal := hPre_routable_ReferenceIdeal)
    ∧ preserves_Kernel_KernelIdeal
    ∧ algebraic_KernelIdeal_ReferenceIdeal_pre_routable_KernelIdeal (hKernelIdeal := hKernelIdeal) (hReferenceIdeal := hReferenceIdeal) (hPre_routable_KernelIdeal := hPre_routable_KernelIdeal)
-- ==== Pre_routable_KernelIdeal.lean ====
abbrev S512x256 : Shape := ⟨2, ![512, 256]⟩
abbrev S256x64 : Shape := ⟨2, ![256, 64]⟩
abbrev S512x2 : Shape := ⟨2, ![512, 2]⟩
abbrev S4x256x512 : Shape := ⟨3, ![4, 256, 512]⟩
abbrev S_ : Shape := ⟨0, ![]⟩

class Facts : Prop where
  bcast_S_S512x2 : S_.BroadcastsInDim S512x2 (![] : Fin 0 → Fin S512x2.rank)
  reducesTo_S512x2_S_d0_1 : S512x2.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S512x256 .f32) (main_arg1 : FVec F S256x64 .f32) (main_arg2 : IVec S512x2 32) (main_arg3 : FVec F S4x256x512 .f32) : IVec S_ 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 64#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_c_1 : IVec S_ 1 := constantI S_ 1 1#1
  let main_v5 : IVec S_ 1 := (fun x v => Host.reduce IntOp.andi x v reducesTo_S512x2_S_d0_1 h_S_) main_v4 main_c_1
  let main_v6 : FVec F S512x256 .f32 := Host.absf main_arg0
  let main_cst : FVec F S_ .f32 := constant S_ .f32 0x7F800000#32
  let main_v7 : FVec F S512x256 .f32 := broadcastInDim S512x256 ![] bcast_S_S512x256 main_cst
  let main_v8 : IVec S512x256 1 := cmpf .olt main_v6 main_v7
  let main_c_2 : IVec S_ 1 := constantI S_ 1 1#1
  let main_v9 : IVec S_ 1 := (fun x v => Host.reduce IntOp.andi x v reducesTo_S512x256_S_d0_1 h_S_) main_v8 main_c_2
  let main_v10 : FVec F S256x64 .f32 := Host.absf main_arg1
  let main_cst_3 : FVec F S_ .f32 := constant S_ .f32 0x7F800000#32
  let main_v11 : FVec F S256x64 .f32 := broadcastInDim S256x64 ![] bcast_S_S256x64 main_cst_3
  let main_v12 : IVec S256x64 1 := cmpf .olt main_v10 main_v11
  let main_c_4 : IVec S_ 1 := constantI S_ 1 1#1
  let main_v13 : IVec S_ 1 := (fun x v => Host.reduce IntOp.andi x v reducesTo_S256x64_S_d0_1 h_S_) main_v12 main_c_4
  let main_v14 : IVec S_ 1 := andi main_v9 main_v13
  let main_v15 : IVec S_ 1 := andi main_v5 main_v14
  main_v15
-- ==== Pre_routable_ReferenceIdeal.lean ====
abbrev S512x256 : Shape := ⟨2, ![512, 256]⟩
abbrev S256x64 : Shape := ⟨2, ![256, 64]⟩
abbrev S512x2 : Shape := ⟨2, ![512, 2]⟩
abbrev S64x256x512 : Shape := ⟨3, ![64, 256, 512]⟩
abbrev S_ : Shape := ⟨0, ![]⟩

class Facts : Prop where
  bcast_S_S512x2 : S_.BroadcastsInDim S512x2 (![] : Fin 0 → Fin S512x2.rank)
  reducesTo_S512x2_S_d0_1 : S512x2.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S512x256 .f32) (main_arg1 : FVec F S256x64 .f32) (main_arg2 : IVec S512x2 32) (main_arg3 : FVec F S64x256x512 .f32) : IVec S_ 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 64#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_c_1 : IVec S_ 1 := constantI S_ 1 1#1
  let main_v5 : IVec S_ 1 := (fun x v => Host.reduce IntOp.andi x v reducesTo_S512x2_S_d0_1 h_S_) main_v4 main_c_1
  let main_v6 : FVec F S512x256 .f32 := Host.absf main_arg0
  let main_cst : FVec F S_ .f32 := constant S_ .f32 0x7F800000#32
  let main_v7 : FVec F S512x256 .f32 := broadcastInDim S512x256 ![] bcast_S_S512x256 main_cst
  let main_v8 : IVec S512x256 1 := cmpf .olt main_v6 main_v7
  let main_c_2 : IVec S_ 1 := constantI S_ 1 1#1
  let main_v9 : IVec S_ 1 := (fun x v => Host.reduce IntOp.andi x v reducesTo_S512x256_S_d0_1 h_S_) main_v8 main_c_2
  let main_v10 : FVec F S256x64 .f32 := Host.absf main_arg1
  let main_cst_3 : FVec F S_ .f32 := constant S_ .f32 0x7F800000#32
  let main_v11 : FVec F S256x64 .f32 := broadcastInDim S256x64 ![] bcast_S_S256x64 main_cst_3
  let main_v12 : IVec S256x64 1 := cmpf .olt main_v10 main_v11
  let main_c_4 : IVec S_ 1 := constantI S_ 1 1#1
  let main_v13 : IVec S_ 1 := (fun x v => Host.reduce IntOp.andi x v reducesTo_S256x64_S_d0_1 h_S_) main_v12 main_c_4
  let main_v14 : IVec S_ 1 := andi main_v9 main_v13
  let main_v15 : IVec S_ 1 := andi main_v5 main_v14
  main_v15
-- ==== Kernel.lean ====
abbrev S512x256 : Shape := ⟨2, ![512, 256]⟩
abbrev S256x64 : Shape := ⟨2, ![256, 64]⟩
abbrev S512x2 : Shape := ⟨2, ![512, 2]⟩
abbrev S4x256x512 : Shape := ⟨3, ![4, 256, 512]⟩
abbrev S32x512 : Shape := ⟨2, ![32, 512]⟩
abbrev S512x512 : Shape := ⟨2, ![512, 512]⟩
abbrev S15x32x512 : Shape := ⟨3, ![15, 32, 512]⟩
abbrev S15 : Shape := ⟨1, ![15]⟩
abbrev S512x64 : Shape := ⟨2, ![512, 64]⟩
abbrev S512 : Shape := ⟨1, ![512]⟩
abbrev S512x1 : Shape := ⟨2, ![512, 1]⟩
abbrev S1x256x512 : Shape := ⟨3, ![1, 256, 512]⟩
abbrev S256x512 : Shape := ⟨2, ![256, 512]⟩
abbrev S_ : Shape := ⟨0, ![]⟩
abbrev S1 : Shape := ⟨1, ![1]⟩
abbrev S1x32x512 : Shape := ⟨3, ![1, 32, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x2, .i32⟩
  | .hbm, ⟨3, _⟩ => ⟨S4x256x512, .f32⟩
  | .hbm, ⟨4, _⟩ => ⟨S32x512, .f32⟩
  | .local _ .vmem, ⟨0, _⟩ => ⟨S512x256, .f32⟩
  | .local _ .vmem, ⟨1, _⟩ => ⟨S256x64, .f32⟩
  | .local _ .vmem, ⟨2, _⟩ => ⟨S512x2, .i32⟩
  | .local _ .vmem, ⟨3, _⟩ => ⟨S4x256x512, .f32⟩
  | .local _ .vmem, ⟨4, _⟩ => ⟨S32x512, .f32⟩
  | .local _ .vmem, ⟨5, _⟩ => ⟨S512x512, .f32⟩
  | .local _ .vmem, ⟨6, _⟩ => ⟨S15x32x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_37 : BitVec 32 := 1#32
  let v94 : BitVec 32 := Scalar.addi v2 c1_i32_37
  let c16_i32_38 : BitVec 32 := 16#32
  let v95 : BitVec 32 := Scalar.remsi v94 c16_i32_38
  let c1_i32_40 : BitVec 32 := 1#32
  let v96 : BitVec 32 := Scalar.muli v95 c1_i32_40
  let v97 : BitVec 32 := Scalar.addi c0_i32_41 v96
  v97.toNat
def k0_dev2 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_42 : BitVec 32 := 2#32
  let v98 : BitVec 32 := Scalar.addi v2 c2_i32_42
  let c16_i32_43 : BitVec 32 := 16#32
  let v99 : BitVec 32 := Scalar.remsi v98 c16_i32_43
  let c1_i32_45 : BitVec 32 := 1#32
  let v100 : BitVec 32 := Scalar.muli v99 c1_i32_45
  let v101 : BitVec 32 := Scalar.addi c0_i32_46 v100
  v101.toNat
def k0_dev3 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_47 : BitVec 32 := 3#32
  let v102 : BitVec 32 := Scalar.addi v2 c3_i32_47
  let c16_i32_48 : BitVec 32 := 16#32
  let v103 : BitVec 32 := Scalar.remsi v102 c16_i32_48
  let c1_i32_50 : BitVec 32 := 1#32
  let v104 : BitVec 32 := Scalar.muli v103 c1_i32_50
  let v105 : BitVec 32 := Scalar.addi c0_i32_51 v104
  v105.toNat
def k0_dev4 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_52 : BitVec 32 := 4#32
  let v106 : BitVec 32 := Scalar.addi v2 c4_i32_52
  let c16_i32_53 : BitVec 32 := 16#32
  let v107 : BitVec 32 := Scalar.remsi v106 c16_i32_53
  let c1_i32_55 : BitVec 32 := 1#32
  let v108 : BitVec 32 := Scalar.muli v107 c1_i32_55
  let v109 : BitVec 32 := Scalar.addi c0_i32_56 v108
  v109.toNat
def k0_dev5 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v110 : BitVec 32 := Scalar.addi v2 c5_i32
  let c16_i32_57 : BitVec 32 := 16#32
  let v111 : BitVec 32 := Scalar.remsi v110 c16_i32_57
  let c1_i32_59 : BitVec 32 := 1#32
  let v112 : BitVec 32 := Scalar.muli v111 c1_i32_59
  let v113 : BitVec 32 := Scalar.addi c0_i32_60 v112
  v113.toNat
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v114 : BitVec 32 := Scalar.addi v2 c6_i32
  let c16_i32_61 : BitVec 32 := 16#32
  let v115 : BitVec 32 := Scalar.remsi v114 c16_i32_61
  let c1_i32_63 : BitVec 32 := 1#32
  let v116 : BitVec 32 := Scalar.muli v115 c1_i32_63
  let v117 : BitVec 32 := Scalar.addi c0_i32_64 v116
  v117.toNat
def k0_dev7 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v118 : BitVec 32 := Scalar.addi v2 c7_i32
  let c16_i32_65 : BitVec 32 := 16#32
  let v119 : BitVec 32 := Scalar.remsi v118 c16_i32_65
  let c1_i32_67 : BitVec 32 := 1#32
  let v120 : BitVec 32 := Scalar.muli v119 c1_i32_67
  let v121 : BitVec 32 := Scalar.addi c0_i32_68 v120
  v121.toNat
def k0_dev8 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v122 : BitVec 32 := Scalar.addi v2 c8_i32
  let c16_i32_69 : BitVec 32 := 16#32
  let v123 : BitVec 32 := Scalar.remsi v122 c16_i32_69
  let c1_i32_71 : BitVec 32 := 1#32
  let v124 : BitVec 32 := Scalar.muli v123 c1_i32_71
  let v125 : BitVec 32 := Scalar.addi c0_i32_72 v124
  v125.toNat
def k0_dev9 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v126 : BitVec 32 := Scalar.addi v2 c9_i32
  let c16_i32_73 : BitVec 32 := 16#32
  let v127 : BitVec 32 := Scalar.remsi v126 c16_i32_73
  let c1_i32_75 : BitVec 32 := 1#32
  let v128 : BitVec 32 := Scalar.muli v127 c1_i32_75
  let v129 : BitVec 32 := Scalar.addi c0_i32_76 v128
  v129.toNat
def k0_dev10 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v130 : BitVec 32 := Scalar.addi v2 c10_i32
  let c16_i32_77 : BitVec 32 := 16#32
  let v131 : BitVec 32 := Scalar.remsi v130 c16_i32_77
  let c1_i32_79 : BitVec 32 := 1#32
  let v132 : BitVec 32 := Scalar.muli v131 c1_i32_79
  let v133 : BitVec 32 := Scalar.addi c0_i32_80 v132
  v133.toNat
def k0_dev11 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_81 : BitVec 32 := 16#32
  let v135 : BitVec 32 := Scalar.remsi v134 c16_i32_81
  let c1_i32_83 : BitVec 32 := 1#32
  let v136 : BitVec 32 := Scalar.muli v135 c1_i32_83
  let v137 : BitVec 32 := Scalar.addi c0_i32_84 v136
  v137.toNat
def k0_dev12 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v138 : BitVec 32 := Scalar.addi v2 c12_i32
  let c16_i32_85 : BitVec 32 := 16#32
  let v139 : BitVec 32 := Scalar.remsi v138 c16_i32_85
  let c1_i32_87 : BitVec 32 := 1#32
  let v140 : BitVec 32 := Scalar.muli v139 c1_i32_87
  let v141 : BitVec 32 := Scalar.addi c0_i32_88 v140
  v141.toNat
def k0_dev13 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v142 : BitVec 32 := Scalar.addi v2 c13_i32
  let c16_i32_89 : BitVec 32 := 16#32
  let v143 : BitVec 32 := Scalar.remsi v142 c16_i32_89
  let c1_i32_91 : BitVec 32 := 1#32
  let v144 : BitVec 32 := Scalar.muli v143 c1_i32_91
  let v145 : BitVec 32 := Scalar.addi c0_i32_92 v144
  v145.toNat
def k0_dev14 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v146 : BitVec 32 := Scalar.addi v2 c14_i32
  let c16_i32_93 : BitVec 32 := 16#32
  let v147 : BitVec 32 := Scalar.remsi v146 c16_i32_93
  let c1_i32_95 : BitVec 32 := 1#32
  let v148 : BitVec 32 := Scalar.muli v147 c1_i32_95
  let v149 : BitVec 32 := Scalar.addi c0_i32_96 v148
  v149.toNat
def k0_dev15 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v150 : BitVec 32 := Scalar.addi v2 c15_i32
  let c16_i32_97 : BitVec 32 := 16#32
  let v151 : BitVec 32 := Scalar.remsi v150 c16_i32_97
  let c1_i32_99 : BitVec 32 := 1#32
  let v152 : BitVec 32 := Scalar.muli v151 c1_i32_99
  let v153 : BitVec 32 := Scalar.addi c0_i32_100 v152
  v153.toNat
def k0_off1 (d0 : Dev nD) (c1_i32_102 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v154 : BitVec 32 := Scalar.subi v2 c1_i32_102
  let c16_i32_103 : BitVec 32 := 16#32
  let v155 : BitVec 32 := Scalar.addi v154 c16_i32_103
  let c16_i32_104 : BitVec 32 := 16#32
  let v156 : BitVec 32 := Scalar.remsi v155 c16_i32_104
  let c32_i32 : BitVec 32 := 32#32
  let v157 : BitVec 32 := Scalar.muli v156 c32_i32
  let c0_i32_112 : BitVec 32 := 0#32
  ![v157.toNat, 0]
def k0_dev16 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_102 : BitVec 32 := 1#32
  let v154 : BitVec 32 := Scalar.subi v2 c1_i32_102
  let c16_i32_103 : BitVec 32 := 16#32
  let v155 : BitVec 32 := Scalar.addi v154 c16_i32_103
  let c16_i32_104 : BitVec 32 := 16#32
  let v156 : BitVec 32 := Scalar.remsi v155 c16_i32_104
  let c1_i32_108 : BitVec 32 := 1#32
  let v158 : BitVec 32 := Scalar.muli v156 c1_i32_108
  let v159 : BitVec 32 := Scalar.addi c0_i32_109 v158
  v159.toNat
def k0_dev17 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_113 : BitVec 32 := 2#32
  let v167 : BitVec 32 := Scalar.subi v2 c2_i32_113
  let c16_i32_114 : BitVec 32 := 16#32
  let v168 : BitVec 32 := Scalar.addi v167 c16_i32_114
  let c16_i32_115 : BitVec 32 := 16#32
  let v169 : BitVec 32 := Scalar.remsi v168 c16_i32_115
  let c1_i32_120 : BitVec 32 := 1#32
  let v171 : BitVec 32 := Scalar.muli v169 c1_i32_120
  let v172 : BitVec 32 := Scalar.addi c0_i32_121 v171
  v172.toNat
def k0_dev18 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_125 : BitVec 32 := 3#32
  let v180 : BitVec 32 := Scalar.subi v2 c3_i32_125
  let c16_i32_126 : BitVec 32 := 16#32
  let v181 : BitVec 32 := Scalar.addi v180 c16_i32_126
  let c16_i32_127 : BitVec 32 := 16#32
  let v182 : BitVec 32 := Scalar.remsi v181 c16_i32_127
  let c1_i32_132 : BitVec 32 := 1#32
  let v184 : BitVec 32 := Scalar.muli v182 c1_i32_132
  let v185 : BitVec 32 := Scalar.addi c0_i32_133 v184
  v185.toNat
def k0_dev19 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_137 : BitVec 32 := 4#32
  let v193 : BitVec 32 := Scalar.subi v2 c4_i32_137
  let c16_i32_138 : BitVec 32 := 16#32
  let v194 : BitVec 32 := Scalar.addi v193 c16_i32_138
  let c16_i32_139 : BitVec 32 := 16#32
  let v195 : BitVec 32 := Scalar.remsi v194 c16_i32_139
  let c1_i32_144 : BitVec 32 := 1#32
  let v197 : BitVec 32 := Scalar.muli v195 c1_i32_144
  let v198 : BitVec 32 := Scalar.addi c0_i32_145 v197
  v198.toNat
def k0_dev20 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_149 : BitVec 32 := 5#32
  let v206 : BitVec 32 := Scalar.subi v2 c5_i32_149
  let c16_i32_150 : BitVec 32 := 16#32
  let v207 : BitVec 32 := Scalar.addi v206 c16_i32_150
  let c16_i32_151 : BitVec 32 := 16#32
  let v208 : BitVec 32 := Scalar.remsi v207 c16_i32_151
  let c1_i32_156 : BitVec 32 := 1#32
  let v210 : BitVec 32 := Scalar.muli v208 c1_i32_156
  let v211 : BitVec 32 := Scalar.addi c0_i32_157 v210
  v211.toNat
def k0_dev21 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_161 : BitVec 32 := 6#32
  let v219 : BitVec 32 := Scalar.subi v2 c6_i32_161
  let c16_i32_162 : BitVec 32 := 16#32
  let v220 : BitVec 32 := Scalar.addi v219 c16_i32_162
  let c16_i32_163 : BitVec 32 := 16#32
  let v221 : BitVec 32 := Scalar.remsi v220 c16_i32_163
  let c1_i32_168 : BitVec 32 := 1#32
  let v223 : BitVec 32 := Scalar.muli v221 c1_i32_168
  let v224 : BitVec 32 := Scalar.addi c0_i32_169 v223
  v224.toNat
def k0_dev22 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_173 : BitVec 32 := 7#32
  let v232 : BitVec 32 := Scalar.subi v2 c7_i32_173
  let c16_i32_174 : BitVec 32 := 16#32
  let v233 : BitVec 32 := Scalar.addi v232 c16_i32_174
  let c16_i32_175 : BitVec 32 := 16#32
  let v234 : BitVec 32 := Scalar.remsi v233 c16_i32_175
  let c1_i32_180 : BitVec 32 := 1#32
  let v236 : BitVec 32 := Scalar.muli v234 c1_i32_180
  let v237 : BitVec 32 := Scalar.addi c0_i32_181 v236
  v237.toNat
def k0_dev23 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_185 : BitVec 32 := 8#32
  let v245 : BitVec 32 := Scalar.subi v2 c8_i32_185
  let c16_i32_186 : BitVec 32 := 16#32
  let v246 : BitVec 32 := Scalar.addi v245 c16_i32_186
  let c16_i32_187 : BitVec 32 := 16#32
  let v247 : BitVec 32 := Scalar.remsi v246 c16_i32_187
  let c1_i32_192 : BitVec 32 := 1#32
  let v249 : BitVec 32 := Scalar.muli v247 c1_i32_192
  let v250 : BitVec 32 := Scalar.addi c0_i32_193 v249
  v250.toNat
def k0_dev24 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_197 : BitVec 32 := 9#32
  let v258 : BitVec 32 := Scalar.subi v2 c9_i32_197
  let c16_i32_198 : BitVec 32 := 16#32
  let v259 : BitVec 32 := Scalar.addi v258 c16_i32_198
  let c16_i32_199 : BitVec 32 := 16#32
  let v260 : BitVec 32 := Scalar.remsi v259 c16_i32_199
  let c1_i32_204 : BitVec 32 := 1#32
  let v262 : BitVec 32 := Scalar.muli v260 c1_i32_204
  let v263 : BitVec 32 := Scalar.addi c0_i32_205 v262
  v263.toNat
def k0_dev25 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_209 : BitVec 32 := 10#32
  let v271 : BitVec 32 := Scalar.subi v2 c10_i32_209
  let c16_i32_210 : BitVec 32 := 16#32
  let v272 : BitVec 32 := Scalar.addi v271 c16_i32_210
  let c16_i32_211 : BitVec 32 := 16#32
  let v273 : BitVec 32 := Scalar.remsi v272 c16_i32_211
  let c1_i32_216 : BitVec 32 := 1#32
  let v275 : BitVec 32 := Scalar.muli v273 c1_i32_216
  let v276 : BitVec 32 := Scalar.addi c0_i32_217 v275
  v276.toNat
def k0_dev26 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_221 : BitVec 32 := 11#32
  let v284 : BitVec 32 := Scalar.subi v2 c11_i32_221
  let c16_i32_222 : BitVec 32 := 16#32
  let v285 : BitVec 32 := Scalar.addi v284 c16_i32_222
  let c16_i32_223 : BitVec 32 := 16#32
  let v286 : BitVec 32 := Scalar.remsi v285 c16_i32_223
  let c1_i32_228 : BitVec 32 := 1#32
  let v288 : BitVec 32 := Scalar.muli v286 c1_i32_228
  let v289 : BitVec 32 := Scalar.addi c0_i32_229 v288
  v289.toNat
def k0_dev27 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_233 : BitVec 32 := 12#32
  let v297 : BitVec 32 := Scalar.subi v2 c12_i32_233
  let c16_i32_234 : BitVec 32 := 16#32
  let v298 : BitVec 32 := Scalar.addi v297 c16_i32_234
  let c16_i32_235 : BitVec 32 := 16#32
  let v299 : BitVec 32 := Scalar.remsi v298 c16_i32_235
  let c1_i32_240 : BitVec 32 := 1#32
  let v301 : BitVec 32 := Scalar.muli v299 c1_i32_240
  let v302 : BitVec 32 := Scalar.addi c0_i32_241 v301
  v302.toNat
def k0_dev28 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_245 : BitVec 32 := 13#32
  let v310 : BitVec 32 := Scalar.subi v2 c13_i32_245
  let c16_i32_246 : BitVec 32 := 16#32
  let v311 : BitVec 32 := Scalar.addi v310 c16_i32_246
  let c16_i32_247 : BitVec 32 := 16#32
  let v312 : BitVec 32 := Scalar.remsi v311 c16_i32_247
  let c1_i32_252 : BitVec 32 := 1#32
  let v314 : BitVec 32 := Scalar.muli v312 c1_i32_252
  let v315 : BitVec 32 := Scalar.addi c0_i32_253 v314
  v315.toNat
def k0_dev29 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_257 : BitVec 32 := 14#32
  let v323 : BitVec 32 := Scalar.subi v2 c14_i32_257
  let c16_i32_258 : BitVec 32 := 16#32
  let v324 : BitVec 32 := Scalar.addi v323 c16_i32_258
  let c16_i32_259 : BitVec 32 := 16#32
  let v325 : BitVec 32 := Scalar.remsi v324 c16_i32_259
  let c1_i32_264 : BitVec 32 := 1#32
  let v327 : BitVec 32 := Scalar.muli v325 c1_i32_264
  let v328 : BitVec 32 := Scalar.addi c0_i32_265 v327
  v328.toNat
def k0_dev30 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_269 : BitVec 32 := 15#32
  let v336 : BitVec 32 := Scalar.subi v2 c15_i32_269
  let c16_i32_270 : BitVec 32 := 16#32
  let v337 : BitVec 32 := Scalar.addi v336 c16_i32_270
  let c16_i32_271 : BitVec 32 := 16#32
  let v338 : BitVec 32 := Scalar.remsi v337 c16_i32_271
  let c1_i32_276 : BitVec 32 := 1#32
  let v340 : BitVec 32 := Scalar.muli v338 c1_i32_276
  let v341 : BitVec 32 := Scalar.addi c0_i32_277 v340
  v341.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_506 : BitVec 32 := 32#32
  let v529 : BitVec 32 := Scalar.muli v2 c32_i32_506
  let v530 : Index := Scalar.indexCast v529
  let c0_507 : Index := 0#32
  ![v530.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x2 : Shape := ⟨2, ![512, 2]⟩
abbrev S64x256x512 : Shape := ⟨3, ![64, 256, 512]⟩
abbrev S512x64 : Shape := ⟨2, ![512, 64]⟩
abbrev S_ : Shape := ⟨0, ![]⟩
abbrev S512 : Shape := ⟨1, ![512]⟩
abbrev S512x1 : Shape := ⟨2, ![512, 1]⟩
abbrev S512x256x512 : Shape := ⟨3, ![512, 256, 512]⟩
abbrev S512x512 : Shape := ⟨2, ![512, 512]⟩

abbrev nBuf : Space → Nat
  | .hbm => 87
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x2, .i32⟩
  | .hbm, ⟨3, _⟩ => ⟨S64x256x512, .f32⟩
  | .hbm, ⟨4, _⟩ => ⟨S512x64, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x64, .f32⟩
  | .hbm, ⟨9, _⟩ => ⟨S512x64, .f32⟩
  | .hbm, ⟨10, _⟩ => ⟨S512x64, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x64, .f32⟩
  | .hbm, ⟨15, _⟩ => ⟨S512x64, .f32⟩
  | .hbm, ⟨16, _⟩ => ⟨S512, .i32⟩
  | .hbm, ⟨17, _⟩ => ⟨S512x1, .i32⟩
  | .hbm, ⟨18, _⟩ => ⟨S512, .i32⟩
  | .hbm, ⟨19, _⟩ => ⟨S512x1, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S512, .i32⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S512x1, .i32⟩
  | .hbm, ⟨37, _⟩ => ⟨S512x2, .i32⟩
  | .hbm, ⟨38, _⟩ => ⟨S512, .f32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S_, .i32⟩
  | .hbm, ⟨47, _⟩ => ⟨S512, .i32⟩
  | .hbm, ⟨48, _⟩ => ⟨S512, .i1⟩
  | .hbm, ⟨49, _⟩ => ⟨S_, .i32⟩
  | .hbm, ⟨50, _⟩ => ⟨S512, .i32⟩
  | .hbm, ⟨51, _⟩ => ⟨S512, .i32⟩
  | .hbm, ⟨52, _⟩ => ⟨S512, .i32⟩
  | .hbm, ⟨53, _⟩ => ⟨S512x1, .i32⟩
  | .hbm, ⟨54, _⟩ => ⟨S512x1, .i32⟩
  | .hbm, ⟨55, _⟩ => ⟨S512x2, .i32⟩
  | .hbm, ⟨56, _⟩ => ⟨S512, .f32⟩
  | .hbm, ⟨57, _⟩ => ⟨S512, .f32⟩
  | .hbm, ⟨58, _⟩ => ⟨S_, .i32⟩
  | .hbm, ⟨59, _⟩ => ⟨S512, .i32⟩
  | .hbm, ⟨60, _⟩ => ⟨S512, .i1⟩
  | .hbm, ⟨61, _⟩ => ⟨S_, .i32⟩
  | .hbm, ⟨62, _⟩ => ⟨S512, .i32⟩
  | .hbm, ⟨63, _⟩ => ⟨S512, .i32⟩
  | .hbm, ⟨64, _⟩ => ⟨S512, .i32⟩
  | .hbm, ⟨65, _⟩ => ⟨S512x1, .i32⟩
  | .hbm, ⟨66, _⟩ => ⟨S512x256x512, .f32⟩
  | .hbm, ⟨67, _⟩ => ⟨S512x512, .f32⟩
  | .hbm, ⟨68, _⟩ => ⟨S_, .i32⟩
  | .hbm, ⟨69, _⟩ => ⟨S512, .i32⟩
  | .hbm, ⟨70, _⟩ => ⟨S512, .i1⟩
  | .hbm, ⟨71, _⟩ => ⟨S_, .i32⟩
  | .hbm, ⟨72, _⟩ => ⟨S512, .i32⟩
  | .hbm, ⟨73, _⟩ => ⟨S512, .i32⟩
  | .hbm, ⟨74, _⟩ => ⟨S512, .i32⟩
  | .hbm, ⟨75, _⟩ => ⟨S512x1, .i32⟩
  | .hbm, ⟨76, _⟩ => ⟨S512x256x512, .f32⟩
  | .hbm, ⟨77, _⟩ => ⟨S512x512, .f32⟩
  | .hbm, ⟨78, _⟩ => ⟨S512, .f32⟩
  | .hbm, ⟨79, _⟩ => ⟨S512x1, .f32⟩
  | .hbm, ⟨80, _⟩ => ⟨S512x512, .f32⟩
  | .hbm, ⟨81, _⟩ => ⟨S512x512, .f32⟩
  | .hbm, ⟨82, _⟩ => ⟨S512, .f32⟩
  | .hbm, ⟨83, _⟩ => ⟨S512x1, .f32⟩
  | .hbm, ⟨84, _⟩ => ⟨S512x512, .f32⟩
  | .hbm, ⟨85, _⟩ => ⟨S512x512, .f32⟩
  | .hbm, ⟨86, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Protocol.lean ====
/-
# The exchange: its devices, memrefs, cells and schedule

Every device holds a partial sum `acc` of the whole output (512 rows) and owes each other device the 32 rows of
`acc` which that device returns. The exchange has 15 steps, numbered `r : Fin 15`. In step `r` device `c` sends the
rows of device `dn r c` into slot `r` of that device's landing buffer, with its own send semaphore `r` and the target's
receive semaphore `r`. Before any transfer each device signals all 15 others on the runtime's barrier semaphore and
waits for 15: the signal in step `r` goes to `up r c`, the device that will send into slot `r` of `c`.

This file states the devices' arithmetic, the memrefs and semaphores by step, the contents of the buffers, and the
schedule of duties: a barrier cell has fifteen duties of one unit, the duty `r` handing over slot `r` of the signaller;
a send cell has one duty, which hands the sent rows back; a receive cell has one duty, which hands over its slot filled.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.ValueIdxCore
public import Idealize.ShloMosaic.Lib.ViewIndex
public import Idealize.ShloMosaic.Lib.Pipeline.ValueKit.Geometry
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Shape (idx3_ext)

variable {F : FTy → Type} [FloatOps F]

/-- The resources beside the pipeline's: rounds whose duties are named by steps. -/
abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter at zero. -/
def s₀ : MemSt nD τ sig (Elt F) := ⟨m, fun _ => 0, ρ⟩

/-! ## The devices of a step -/

set_option backward.proofsInPublic true in
/-- The device which sends to `c` in step `r`, and which `c` signals in step `r`. -/
def up (r : Fin 15) (c : Dev nD) : Dev nD := ⟨(c.val + (r.val + 1)) % 16, Nat.mod_lt _ (by decide)⟩
set_option backward.proofsInPublic true in
/-- The device to which `c` sends in step `r`. -/
def dn (r : Fin 15) (c : Dev nD) : Dev nD := ⟨(c.val + 15 - r.val) % 16, Nat.mod_lt _ (by decide)⟩

theorem dn_up : ∀ (r : Fin 15) (c : Dev nD), dn r (up r c) = c := by decide +kernel
theorem up_dn : ∀ (r : Fin 15) (c : Dev nD), up r (dn r c) = c := by decide +kernel
theorem dn_inj : ∀ (c : Dev nD) (r r' : Fin 15), dn r c = dn r' c → r = r' := by decide +kernel
theorem up_inj : ∀ (c : Dev nD) (r r' : Fin 15), up r c = up r' c → r = r' := by decide +kernel
theorem others_dn : ∀ c : Dev nD, Finset.univ.erase c = Finset.univ.image (fun r : Fin 15 => dn r c) := by decide +kernel
theorem others_up : ∀ c : Dev nD, Finset.univ.erase c = Finset.univ.image (fun r : Fin 15 => up r c) := by decide +kernel

/-- The devices in the order a step shifts them. -/
def shift (r : Fin 15) : Dev nD ≃ Dev nD := ⟨up r, dn r, dn_up r, up_dn r⟩

/-! ## Memrefs and semaphores -/

abbrev xM : Memref sig .tc .vmem S512x256 .f32 := Memref.whole cc0_stg0_0
abbrev rwM : Memref sig .tc .vmem S256x64 .f32 := Memref.whole cc0_stg1_0
abbrev idxM : Memref sig .tc .vmem S512x2 .i32 := Memref.whole cc0_stg2_0
abbrev ewM : Memref sig .tc .vmem S4x256x512 .f32 := Memref.whole cc0_stg3_0
abbrev outM : Memref sig .tc .vmem S32x512 .f32 := Memref.whole cc0_stg4_0
abbrev accM : Memref sig .tc .vmem S512x512 .f32 := Memref.whole cc0_scratch0
abbrev comM : Memref sig .tc .vmem S15x32x512 .f32 := Memref.whole cc0_scratch1

theorem inbSem : ∀ (r : Fin 15) (a), (![r.val] : Fin 1 → Nat) a + S1.size a ≤ S15.size a := by decide
theorem inbSlot : ∀ (r : Fin 15) (a), (![r.val, 0, 0] : Fin 3 → Nat) a + S1x32x512.size a ≤ S15x32x512.size a := by decide

/-- The runtime's barrier semaphore, and the send and receive semaphores of step `r`. -/
abbrev barS : Sem sig := (SemArray.scalar (sig.barrier 0 rfl) : Sems sig S_).sem
abbrev sendS (r : Fin 15) : DmaSem sig := ((cc0_scratch2.slice (Rect.unit (s := S15) ![r.val] S1.size (inbSem r))).squeeze S_ squeezes_S1_S_ : DmaSems sig S_).sem
abbrev recvS (r : Fin 15) : DmaSem sig := ((cc0_scratch3.slice (Rect.unit (s := S15) ![r.val] S1.size (inbSem r))).squeeze S_ squeezes_S1_S_ : DmaSems sig S_).sem

/-- Slot `r` of the landing buffer, and the rows of the accumulator which `c` sends in step `r`. -/
abbrev slotM (r : Fin 15) : Memref sig .tc .vmem S32x512 .f32 :=
  (comM.slice (Rect.unit (s := S15x32x512) ![r.val, 0, 0] S1x32x512.size (inbSlot r)) (fun _ => rfl)).squeeze S32x512 squeezes_S1x32x512_S32x512
abbrev rowM (c : Dev nD) (r : Fin 15) : Memref sig .tc .vmem S32x512 .f32 :=
  accM.slice (Rect.unit (s := S512x512) (k0_off1 c (BitVec.ofNat 32 (1 + r.val))) S32x512.size (k0_off1_inb c r)) (fun _ => rfl)

abbrev barCell (c : Dev nD) : GSem nD τ sig := ((c : Thread nD τ), .reg barS)
abbrev sendCell (c : Dev nD) (r : Fin 15) : GSem nD τ sig := ((c : Thread nD τ), .dma (sendS r))
abbrev recvCell (c : Dev nD) (r : Fin 15) : GSem nD τ sig := ((c : Thread nD τ), .dma (recvS r))

/-- The cells of a device, named: its barrier; and for each step its send cell (`false`) and its receive cell (`true`). -/
abbrev Kd : Type := Unit ⊕ (Bool × Fin 15)
abbrev osem (k : Bool × Fin 15) : SemLoc sig := .dma (if k.1 then recvS k.2 else sendS k.2)
abbrev csem (k : Kd) : SemLoc sig := match k with
  | .inl _ => .reg barS
  | .inr k => osem k
abbrev kcell (ck : Dev nD × Kd) : GSem nD τ sig := ((ck.1 : Thread nD τ), csem ck.2)

theorem sendS_val : ∀ r : Fin 15, (sendS r).val = 5 + r.val := by decide +kernel
theorem recvS_val : ∀ r : Fin 15, (recvS r).val = 20 + r.val := by decide +kernel

theorem osem_inj : Function.Injective osem := by
  rintro ⟨b, r⟩ ⟨b', r'⟩ h
  have h' := congrArg Fin.val (SemLoc.dma.inj h)
  have hr := r.isLt; have hr' := r'.isLt
  cases b <;> cases b' <;> simp only [if_true, if_false, Bool.false_eq_true, sendS_val, recvS_val] at h'
  · rw [show r = r' from Fin.ext (by omega)]
  · omega
  · omega
  · rw [show r = r' from Fin.ext (by omega)]

theorem csem_inj : Function.Injective csem := by
  rintro (⟨⟩ | k) (⟨⟩ | k') h
  · rfl
  · cases h
  · cases h
  · rw [osem_inj h]

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- The credit of one slot, the same for every slot. -/
abbrev N : ℕ := (slotM 0).view.dmaCredit
theorem N_pos : 0 < N := View.dmaCredit_pos _ (by decide)
theorem slot_credit (r : Fin 15) : (slotM r).view.dmaCredit = N := rfl
theorem row_credit (c : Dev nD) (r : Fin 15) : (rowM c r).view.dmaCredit = N := by
  rfl

/-! ## Contents -/

/-- The four inputs as device `c`'s staging buffers hold them. -/
def xAt (c : Dev nD) : (cc0_stg0_0 : Ref sig .tc).ty.Contents (Elt F) :=
  (win0_0.blk (0 : Fin 1)).view.read (Elt F) ((s₀ m ρ).mem ((c : Thread nD τ).loc main_arg0))
def rwAt (c : Dev nD) : (cc0_stg1_0 : Ref sig .tc).ty.Contents (Elt F) :=
  (win0_1.blk (0 : Fin 1)).view.read (Elt F) ((s₀ m ρ).mem ((c : Thread nD τ).loc main_arg1))
def idxAt (c : Dev nD) : (cc0_stg2_0 : Ref sig .tc).ty.Contents (Elt F) :=
  (win0_2.blk (0 : Fin 1)).view.read (Elt F) ((s₀ m ρ).mem ((c : Thread nD τ).loc main_arg2))
def ewAt (c : Dev nD) : (cc0_stg3_0 : Ref sig .tc).ty.Contents (Elt F) :=
  (win0_3.blk (0 : Fin 1)).view.read (Elt F) ((s₀ m ρ).mem ((c : Thread nD τ).loc main_arg3))

/-- A device's position on the mesh axis, as the kernel computes it from the device's number. -/
def pos (c : Dev nD) : BitVec 32 := Scalar.remsi (Scalar.divsi (Dev.word c) 1#32) 16#32

theorem inbExpert : ∀ (j : Fin 4) (a), (![j.val, 0, 0] : Fin 3 → Nat) a + S1x256x512.size a ≤ S4x256x512.size a := by decide

/-- The matrix of the `j`-th expert a device keeps, of the four in `f`. -/
abbrev expertOf (f : (cc0_stg3_0 : Ref sig .tc).ty.Contents (Elt F)) (j : Fin 4) : Vec F S1x256x512 .f32 :=
  ewM.view.readAt (Elt F) (Rect.unit (s := S4x256x512) ![j.val, 0, 0] S1x256x512.size (inbExpert j)).toLoadRect f

/-- The partial sum a device at position word `pos c` makes from its inputs: what the kernel stores to its accumulator. -/
def partialSum (c : Dev nD) (x : Vec F S512x256 .f32) (rw : Vec F S256x64 .f32) (idx : Vec F S512x2 .i32)
    (ew : (cc0_stg3_0 : Ref sig .tc).ty.Contents (Elt F)) : FVec F S512x512 .f32 :=
  k0_pay8 (k0_pay2 x) (iota .tc S512x64 32 [1] iota_S512x64_d1_w32) (k0_pay3 x rw idx)
    (k0_pay6 (pos c) (k0_pay2 x) (iota .tc S512x64 32 [1] iota_S512x64_d1_w32) (k0_pay3 x rw idx) (k0_pay4 (F := F)) (k0_pay5 c x rw idx)
      (expertOf ew 0) (expertOf ew 1) (expertOf ew 2))
    (k0_pay7 (pos c)) (expertOf ew 3)

/-- What device `c`'s accumulator holds through the exchange. -/
def accAt (c : Dev nD) : (cc0_scratch0 : Ref sig .tc).ty.Contents (Elt F) :=
  partialSum c (xAt m ρ c) (rwAt m ρ c) (idxAt m ρ c) (ewAt m ρ c)

/-- Row `i` of the block of 32 rows which device `c` returns, as a row of the whole output. -/
def rowOf (c : Dev nD) (i : Fin 32) : Fin 512 := ⟨32 * c.val + i.val, by have := c.isLt; have := i.isLt; simp only [nD] at *; omega⟩

/-- What device `c`'s landing buffer holds when every transfer has landed: in slot `r`, the rows of `c` in the accumulator
    of `up r c`. -/
def comAt (c : Dev nD) : (cc0_scratch1 : Ref sig .tc).ty.Contents (Elt F) :=
  fun i : S15x32x512.Idx => accAt m ρ (up (i 0) c) (ix2 (rowOf c (i 1)) (i 2))

/-- What device `c` returns: its own rows of its accumulator plus the sum of the fifteen slots. -/
def outAt (c : Dev nD) : (cc0_stg4_0 : Ref sig .tc).ty.Contents (Elt F) :=
  k0_pay1 (accM.view.readAt (Elt F) (Rect.unit (s := S512x512) (k0_off2 c) S32x512.size (k0_off2_inb c)).toLoadRect (accAt m ρ c)) (comAt m ρ c)

/-! ### Where the rows and slots lie -/

/-- Two rank-2 indices with the same coordinates are the same. -/
theorem idx2_ext {d : Fin 2 → Nat} {x y : (⟨2, d⟩ : Shape).Idx} (h0 : (x 0).val = (y 0).val) (h1 : (x 1).val = (y 1).val) : x = y :=
  funext fun a => match a with
    | ⟨0, _⟩ => Fin.ext h0
    | ⟨1, _⟩ => Fin.ext h1

/-- The elements of the accumulator in the rows of device `p`; those of the landing buffer in slot `r`. -/
def rowSet (p : Dev nD) : Finset (cc0_scratch0 : Ref sig .tc).ty.Idx := Finset.univ.filter fun i : S512x512.Idx => (i 0).val / 32 = p.val
def slotSet (r : Fin 15) : Finset (cc0_scratch1 : Ref sig .tc).ty.Idx := Finset.univ.filter fun i : S15x32x512.Idx => (i 0).val = r.val

theorem row_off (c : Dev nD) (r : Fin 15) : k0_off1 c (BitVec.ofNat 32 (1 + r.val)) = ![32 * (dn r c).val, 0] := k0_off1_eq c r

theorem row_set (c : Dev nD) (r : Fin 15) : (rowM c r).view.set = rowSet (dn r c) := by
  show ((View.whole cc0_scratch0).slice (Rect.unit (s := S512x512) _ S32x512.size (k0_off1_inb c r)) : View sig .tc _ _ _).set = _
  rw [View.set_slice_whole]
  ext i
  rw [Rect.mem_set_unit, rowSet, Finset.mem_filter, row_off]
  refine ⟨fun h => ⟨Finset.mem_univ _, ?_⟩, fun h a => ?_⟩
  · have h0 : 32 * (dn r c).val ≤ (i 0 : Nat) ∧ (i 0 : Nat) < 32 * (dn r c).val + 32 := h 0
    show (i 0 : Nat) / 32 = _
    omega
  · have h0 : (i 0 : Nat) / 32 = (dn r c).val := h.2
    match a with
    | ⟨0, _⟩ => show 32 * (dn r c).val ≤ (i 0 : Nat) ∧ (i 0 : Nat) < 32 * (dn r c).val + 32; omega
    | ⟨1, _⟩ => exact ⟨Nat.zero_le _, by have h1 := (i 1).isLt; show (i 1 : Nat) < 0 + 512; rw [Nat.zero_add]; exact h1⟩

theorem slot_set (r : Fin 15) : (slotM r).view.set = slotSet r := by
  show (((View.whole cc0_scratch1).slice (Rect.unit (s := S15x32x512) ![r.val, 0, 0] S1x32x512.size (inbSlot r))).reshape S32x512 _ : View sig .tc _ _ _).set = _
  rw [View.set_reshape, View.set_slice_whole]
  ext i
  rw [Rect.mem_set_unit, slotSet, Finset.mem_filter]
  refine ⟨fun h => ⟨Finset.mem_univ _, ?_⟩, fun h a => ?_⟩
  · have h0 : r.val ≤ (i 0 : Nat) ∧ (i 0 : Nat) < r.val + 1 := h 0
    show (i 0 : Nat) = _
    omega
  · have h0 : (i 0 : Nat) = r.val := h.2
    match a with
    | ⟨0, _⟩ => show r.val ≤ (i 0 : Nat) ∧ (i 0 : Nat) < r.val + 1; omega
    | ⟨1, _⟩ => exact ⟨Nat.zero_le _, by have h1 := (i 1).isLt; show (i 1 : Nat) < 0 + 32; rw [Nat.zero_add]; exact h1⟩
    | ⟨2, _⟩ => exact ⟨Nat.zero_le _, by have h1 := (i 2).isLt; show (i 2 : Nat) < 0 + 512; rw [Nat.zero_add]; exact h1⟩

/-- An element of the rows `c` sends in step `r`, placed in the accumulator. -/
theorem row_emb (c : Dev nD) (r : Fin 15) (a : Fin 32) (b : Fin 512) : (rowM c r).view.emb (ix2 a b) = ix2 (rowOf (dn r c) a) b := by
  refine idx2_ext ?_ ?_
  · show k0_off1 c (BitVec.ofNat 32 (1 + r.val)) 0 + 1 * a.val = 32 * (dn r c).val + a.val
    rw [row_off, Nat.one_mul]; rfl
  · show k0_off1 c (BitVec.ofNat 32 (1 + r.val)) 1 + 1 * b.val = b.val
    rw [row_off, Nat.one_mul]; exact Nat.zero_add _

/-- An element of slot `r`, placed in the landing buffer. -/
theorem slot_emb (r : Fin 15) (a : Fin 32) (b : Fin 512) : (slotM r).view.emb (ix2 a b) = ix3 r a b := by
  show (Rect.unit (s := S15x32x512) ![r.val, 0, 0] S1x32x512.size (inbSlot r)).emb (Shape.reshapeEquiv _ (ix2 a b)) = _
  erw [reshapeEquiv_ix2_1ab]
  refine idx3_ext ?_ ?_ ?_
  · show r.val + 1 * 0 = r.val; omega
  · show 0 + 1 * a.val = a.val; omega
  · show 0 + 1 * b.val = b.val; omega

/-- Step `r`'s transfer into slot `r` of `c`, from the accumulator of `up r c`, leaves the slot as `comAt` says, whatever it held. -/
theorem landed_eq (c : Dev nD) (r : Fin 15) (fd : (cc0_scratch1 : Ref sig .tc).ty.Contents (Elt F)) (i) (hi : i ∈ slotSet r) :
    (slotM r).view.write (Elt F) fd ((rowM (up r c) r).view.read (Elt F) (accAt m ρ (up r c))) Finset.univ i = comAt m ρ c i := by
  rw [← slot_set] at hi
  obtain ⟨x, -, rfl⟩ := Finset.mem_map.mp hi
  rw [View.write_emb_of_mem _ _ (Finset.mem_univ x)]
  obtain ⟨a, b, rfl⟩ : ∃ (a : Fin 32) (b : Fin 512), x = ix2 a b := ⟨x 0, x 1, idx2_ext rfl rfl⟩
  show accAt m ρ (up r c) ((rowM (up r c) r).view.emb (ix2 a b)) = comAt m ρ c ((slotM r).view.emb (ix2 a b))
  rw [row_emb, slot_emb, dn_up]
  rfl

end Cert.Exchange

end
-- ==== Proof.Schedule.lean ====
/-
# The exchange's schedule

Which cell has which duties, the amounts and what each duty hands over; what each device owes at launch; the levels by
which no wait is circular (barrier cells below receive cells, all others at the bottom).
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Shape (idx3_ext)

variable {F : FTy → Type} [FloatOps F]

local notation "𝕄" => MT nD τ sig Unit (Elt F) ℕ UU ℕ

variable (m : (ℓ : Loc nD τ sig) → Buf (Elt F) ℓ) (ρ : Dev nD → PrngReg)

/-! ## What the duties hand over -/

/-- The rows device `c` sends in step `r`, as its accumulator holds them. -/
def rowPts (c : Dev nD) (r : Fin 15) (f : Buf (Elt F) ((c : Thread nD τ).loc cc0_scratch0)) : sProp 𝕄 :=
  (((c : Thread nD τ).loc cc0_scratch0) ↦[rowSet (dn r c)]{fullShare} f)
/-- Slot `r` of device `c`'s landing buffer, holding `f`. -/
def slotPts (c : Dev nD) (r : Fin 15) (f : Buf (Elt F) ((c : Thread nD τ).loc cc0_scratch1)) : sProp 𝕄 :=
  (((c : Thread nD τ).loc cc0_scratch1) ↦[slotSet r]{fullShare} f)

omit [FloatOps F] in
instance rowPts_storable (c : Dev nD) (r : Fin 15) (f) : BI.Storable (upEmb : UEmb _ 𝕄) (rowPts (F := F) c r f) := by unfold rowPts; infer_instance
omit [FloatOps F] in
instance slotPts_storable (c : Dev nD) (r : Fin 15) (f) : BI.Storable (upEmb : UEmb _ 𝕄) (slotPts (F := F) c r f) := by unfold slotPts; infer_instance

/-- What the signal of step `r` hands device `p`: slot `r` of the landing buffer of `dn r p`, which signalled. -/
def barPay (p : Dev nD) (r : Fin 15) : sProp 𝕄 := iprop(∃ f, slotPts (dn r p) r f)

/-! ## The schedule -/

/-- Which of the exchange's semaphores this one is, if any. -/
def which : SemLoc sig → Option Kd := Function.partialInv csem

theorem which_csem (k : Kd) : which (csem k) = some k := Function.partialInv_left csem_inj k

/-- The duties of a cell of each kind. -/
def dutiesOf : Option Kd → Finset (Fin 15)
  | some (.inl _) => Finset.univ
  | some (.inr _) => {0}
  | none => ∅

/-- The amount of each duty of a cell of each kind. -/
def amountOf : Option Kd → ℕ
  | some (.inl _) => 1
  | _ => N

/-- What duty `d` of device `c`'s cell of each kind hands over. -/
def payOf (c : Dev nD) (d : Fin 15) : Option Kd → sProp 𝕄
  | some (.inl _) => barPay c d
  | some (.inr (false, r)) => rowPts c r (accAt m ρ c)
  | some (.inr (true, r)) => slotPts c r (comAt m ρ c)
  | none => iprop(emp)

/-- One round: a barrier cell has the fifteen duties of one unit, a send or receive cell the duty `0` of a transfer's credit. -/
def exRd : Rounds.Schedule (GSem nD τ sig) (Fin 15) 𝕄 where
  duties g r := if r = 0 ∧ g.1.2 = .tc then dutiesOf (which g.2) else ∅
  unitless _ := False
  amount g _ _ := amountOf (which g.2)
  payload g _ d := payOf m ρ g.1.1 d (which g.2)
  amount_pos g _ _ _ := by
    rcases which g.2 with _ | (_ | _)
    · exact N_pos
    · exact Nat.one_pos
    · exact N_pos

instance payOf_storable (c : Dev nD) (d : Fin 15) (k : Option Kd) : BI.Storable (upEmb : UEmb _ 𝕄) (payOf (F := F) m ρ c d k) := by
  rcases k with _ | (_ | ⟨_ | _, r⟩) <;> (unfold payOf; try unfold barPay) <;> infer_instance

instance exRd_payload_storable (g : GSem nD τ sig) (r : ℕ) (d : Fin 15) : BI.Storable (upEmb : UEmb _ 𝕄) ((exRd (F := F) m ρ).payload g r d) :=
  payOf_storable m ρ g.1.1 d (which g.2)

/-- The cell of kind `k` on device `c`. -/
theorem duties_cell (c : Dev nD) (k : Kd) : (exRd (F := F) m ρ).duties (kcell (c, k)) 0 = dutiesOf (some k) := by
  dsimp only [exRd]; rw [if_pos ⟨rfl, rfl⟩, which_csem]
theorem duties_later (g : GSem nD τ sig) : ∀ r, 1 ≤ r → (exRd (F := F) m ρ).duties g r = ∅ := fun r hr => if_neg fun h => by omega
theorem amount_cell (c : Dev nD) (k : Kd) (d : Fin 15) : (exRd (F := F) m ρ).amount (kcell (c, k)) 0 d = amountOf (some k) := by
  rw [← which_csem k]; rfl
theorem payload_cell (c : Dev nD) (k : Kd) (d : Fin 15) : (exRd (F := F) m ρ).payload (kcell (c, k)) 0 d = payOf m ρ c d (some k) := by
  rw [← which_csem k]; rfl

theorem expect_bar (c : Dev nD) : (exRd (F := F) m ρ).expect (barCell c) 0 = 15 := by
  unfold Schedule.expect Schedule.amountOf
  erw [duties_cell m ρ c (.inl ()), Finset.sum_congr rfl fun d _ => amount_cell m ρ c (.inl ()) d]
  rfl
theorem expect_dma (c : Dev nD) (k : Bool × Fin 15) : (exRd (F := F) m ρ).expect (kcell (c, .inr k)) 0 = N := by
  unfold Schedule.expect Schedule.amountOf
  rw [duties_cell]
  exact (Finset.sum_singleton _ _).trans (amount_cell m ρ c (.inr k) 0)

/-- The whole round of a barrier cell: every step's slot. -/
theorem rest_bar (c : Dev nD) :
    bigSep ((exRd (F := F) m ρ).duties (barCell c) 0 \ ∅) (fun d => (exRd (F := F) m ρ).payload (barCell c) 0 d) = bigSep Finset.univ fun r => barPay c r := by
  rw [Finset.sdiff_empty]
  erw [duties_cell m ρ c (.inl ())]
  exact bigSep_congr fun d _ => payload_cell m ρ c (.inl ()) d
/-- The whole round of a send or receive cell: its one payload. -/
theorem rest_dma (c : Dev nD) (k : Bool × Fin 15) :
    bigSep ((exRd (F := F) m ρ).duties (kcell (c, .inr k)) 0 \ ∅) (fun d => (exRd (F := F) m ρ).payload (kcell (c, .inr k)) 0 d) = payOf m ρ c 0 (some (.inr k)) := by
  rw [Finset.sdiff_empty, duties_cell]
  exact bigSep_singleton.trans (payload_cell m ρ c (.inr k) 0)

/-! ## Steps still to do and steps done -/

/-- The steps from `k` on; the steps before `k`. -/
def later (k : ℕ) : Finset (Fin 15) := Finset.univ.filter fun r => k ≤ r.val
def before (k : ℕ) : Finset (Fin 15) := Finset.univ.filter fun r => r.val < k

theorem later_zero : later 0 = Finset.univ := by decide
theorem later_end : later 15 = ∅ := by decide
theorem before_zero : before 0 = ∅ := by decide
theorem before_end : before 15 = Finset.univ := by decide
theorem later_step {k : ℕ} (hk : k < 15) : later k = insert ⟨k, hk⟩ (later (k + 1)) := by
  ext r; simp only [later, Finset.mem_filter, Finset.mem_insert, Finset.mem_univ, true_and, Fin.ext_iff]; omega
theorem before_step {k : ℕ} (hk : k < 15) : before (k + 1) = insert ⟨k, hk⟩ (before k) := by
  ext r; simp only [before, Finset.mem_filter, Finset.mem_insert, Finset.mem_univ, true_and, Fin.ext_iff]; omega
theorem not_mem_later {k : ℕ} (hk : k < 15) : (⟨k, hk⟩ : Fin 15) ∉ later (k + 1) := by
  simp only [later, Finset.mem_filter, Finset.mem_univ, true_and]; omega
theorem not_mem_before {k : ℕ} (hk : k < 15) : (⟨k, hk⟩ : Fin 15) ∉ before k := by
  simp only [before, Finset.mem_filter, Finset.mem_univ, true_and]; omega

omit [FloatOps F] in
/-- What is held for the steps to do splits into the next step's part and the rest. -/
theorem later_peel {k : ℕ} (hk : k < 15) (Φ : Fin 15 → sProp 𝕄) : bigSep (later k) Φ = iprop(Φ ⟨k, hk⟩ ∗ bigSep (later (k + 1)) Φ) := by
  rw [later_step hk, bigSep_insert (not_mem_later hk)]; rfl
omit [FloatOps F] in
/-- What is held for the steps done, one step more. -/
theorem before_push {k : ℕ} (hk : k < 15) (Φ : Fin 15 → sProp 𝕄) : bigSep (before (k + 1)) Φ = iprop(Φ ⟨k, hk⟩ ∗ bigSep (before k) Φ) := by
  rw [before_step hk, bigSep_insert (not_mem_before hk)]; rfl

/-! ## What each device owes -/

/-- The credits device `c` has yet to pay from step `k` on: to the targets' receive cells, to the barrier cells it signals. -/
def owedSend (c : Dev nD) (k : ℕ) : CellTallies nD τ sig Unit := ∑ r ∈ later k, tallyAt (recvCell (dn r c) r) () N
def owedSig (c : Dev nD) (k : ℕ) : CellTallies nD τ sig Unit := ∑ r ∈ later k, tallyAt (barCell (up r c)) () 1
/-- At launch it owes all of both. -/
def O₀ (c : Dev nD) : CellTallies nD τ sig Unit := owedSend c 0 + owedSig c 0

theorem owedSend_peel (c : Dev nD) {k : ℕ} (hk : k < 15) : owedSend c k = owedSend c (k + 1) + tallyAt (recvCell (dn ⟨k, hk⟩ c) ⟨k, hk⟩) () N := by
  unfold owedSend; rw [later_step hk, Finset.sum_insert (not_mem_later hk), add_comm]
theorem owedSig_peel (c : Dev nD) {k : ℕ} (hk : k < 15) : owedSig c k = owedSig c (k + 1) + tallyAt (barCell (up ⟨k, hk⟩ c)) () 1 := by
  unfold owedSig; rw [later_step hk, Finset.sum_insert (not_mem_later hk), add_comm]
theorem owedSend_end (c : Dev nD) : owedSend c 15 = 0 := by unfold owedSend; rw [later_end, Finset.sum_empty]
theorem owedSig_end (c : Dev nD) : owedSig c 15 = 0 := by unfold owedSig; rw [later_end, Finset.sum_empty]

theorem owedSend_apply (c : Dev nD) (k : ℕ) (g : GSem nD τ sig) (u : Unit) :
    owedSend c k g u = ∑ r ∈ later k, if g = recvCell (dn r c) r ∧ u = () then N else 0 := by
  unfold owedSend; rw [Finset.sum_apply, Finsupp.finset_sum_apply]; exact Finset.sum_congr rfl fun r _ => tallyAt_apply _ _ _ _ _
theorem owedSig_apply (c : Dev nD) (k : ℕ) (g : GSem nD τ sig) (u : Unit) :
    owedSig c k g u = ∑ r ∈ later k, if g = barCell (up r c) ∧ u = () then 1 else 0 := by
  unfold owedSig; rw [Finset.sum_apply, Finsupp.finset_sum_apply]; exact Finset.sum_congr rfl fun r _ => tallyAt_apply _ _ _ _ _

theorem owedSend_pos {c : Dev nD} {k : ℕ} {g : GSem nD τ sig} {u : Unit} (h : 0 < owedSend c k g u) : ∃ r, g = recvCell (dn r c) r := by
  rw [owedSend_apply] at h
  obtain ⟨r, -, hr⟩ := Finset.exists_ne_zero_of_sum_ne_zero h.ne'
  exact ⟨r, (ite_ne_right_iff.mp hr).1.1⟩
theorem owedSig_pos {c : Dev nD} {k : ℕ} {g : GSem nD τ sig} {u : Unit} (h : 0 < owedSig c k g u) : ∃ r, g = barCell (up r c) := by
  rw [owedSig_apply] at h
  obtain ⟨r, -, hr⟩ := Finset.exists_ne_zero_of_sum_ne_zero h.ne'
  exact ⟨r, (ite_ne_right_iff.mp hr).1.1⟩

/-! ## The levels -/

/-- The levels are over the TensorCores' cells: barrier cells at 1, receive cells at 2, staging and send cells at 0. -/
def L (g : GSem nD τ sig) : Finset Unit := if g.1.2 = .tc then {()} else ∅
def lvSem : SemLoc sig → ℕ
  | .reg _ => 1
  | .dma q => if 20 ≤ q.val then 2 else 0
def lv (g : GSem nD τ sig) (_ : Unit) : ℕ := lvSem g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (r : Fin 15) (u : Unit) : lv (recvCell c r) u = 2 := by
  show (if 20 ≤ (recvS r).val then 2 else 0) = 2
  rw [recvS_val, if_pos (Nat.le_add_right _ _)]

omit [FloatOps F] in
/-- A wait on a cell below every cell of `O` is allowed to a device owing `O`. -/
theorem mayWait_below (c : Dev nD) (sm : SemLoc sig) (O : CellTallies nD τ sig Unit)
    (hL : ∀ g u, 0 < O g u → g.1.2 = .tc) (hO : ∀ g u, 0 < O g u → lvSem sm < lv g u) : (levAts L lv : sProp 𝕄) ⊢ MayWait (c : Thread nD τ) sm () O :=
  MayOwe.of_cut (L := L) (lev := lv) (lvSem sm) (fun p hp => by rw [Finset.mem_singleton.mp hp, L_tc]; exact Finset.mem_singleton_self _)
    (fun g u hg => by unfold L; rw [if_pos (hL g u hg)]; exact Finset.mem_singleton_self _)
    (fun p hp => by rw [Finset.mem_singleton.mp hp]; exact le_refl _)
    (fun g u hg => hO g u hg)

omit [FloatOps F] in
/-- A staging cell's wait, at launch or when nothing is owed. -/
theorem mayWait_stage (c : Dev nD) (q : DmaSem sig) (hq : ¬ 20 ≤ q.val) (O : CellTallies nD τ sig Unit) (hO : O = O₀ c ∨ O = 0) :
    (levAts L lv : sProp 𝕄) ⊢ MayWait (c : Thread nD τ) (.dma q) () O := by
  rcases hO with rfl | rfl
  · have key : ∀ g u, 0 < O₀ c g u → (∃ r, g = recvCell (dn r c) r) ∨ ∃ r, g = barCell (up r c) := fun g u h => by
      unfold O₀ at h
      rw [Pi.add_apply, Finsupp.add_apply] at h
      rcases Nat.eq_zero_or_pos (owedSend c 0 g u) with h0 | h0
      · exact .inr (owedSig_pos (k := 0) (by rw [h0, Nat.zero_add] at h; exact h))
      · exact .inl (owedSend_pos h0)
    have h0 : lvSem (.dma q : SemLoc sig) = 0 := if_neg hq
    refine mayWait_below c _ _ (fun g u h => ?_) fun g u h => ?_
    · rcases key g u h with ⟨r, rfl⟩ | ⟨r, rfl⟩ <;> rfl
    · rw [h0]
      rcases key g u h with ⟨r, rfl⟩ | ⟨r, rfl⟩
      · rw [lv_recv]; exact Nat.two_pos
      · exact Nat.one_pos
  · rw [MayWait_zero]; iintro -; iempintro

omit [FloatOps F] in
/-- The barrier's wait, when only the transfers' credits are still owed. -/
theorem mayWait_bar (c : Dev nD) : (levAts L lv : sProp 𝕄) ⊢ MayWait (c : Thread nD τ) (.reg barS) () (owedSend c 0) :=
  mayWait_below c _ _ (fun g u h => by obtain ⟨r, rfl⟩ := owedSend_pos h; rfl)
    fun g u h => by obtain ⟨r, rfl⟩ := owedSend_pos h; rw [lv_recv]; exact Nat.one_lt_two

end Cert.Exchange

end
-- ==== Proof.Steps.lean ====
/-
# The exchange's steps

One lemma for each kind of operation of the exchange, for an arbitrary step `k`: what is held before the operation, what
is held after it. The resources of the steps to do and of the steps done are two iterated separating conjunctions, from
which a step takes its part and to which it gives its part back.
-/
module

public import proofs.«01_k».proof.Proof.Schedule

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Shape (idx3_ext)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The triple's right-hand side of this file: a program run by device `c`. -/
abbrev Run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What every device knows throughout: each cell's invariant, under its name; that each cell is at round 0; the levels. -/
def records (K : Dev nD × Kd → ℕ) : sProp 𝕄 :=
  iprop((bigSep Finset.univ fun ck => cellInv ER (exRd m ρ) (K ck) (kcell ck)) ∗ (bigSep Finset.univ fun ck => reached ER (kcell ck) 0) ∗ levAts L lv)

instance records_persistent (K : Dev nD × Kd → ℕ) : BI.Persistent (records m ρ K) := by unfold records; infer_instance

variable (K : Dev nD × Kd → ℕ)

theorem inv_at (ck : Dev nD × Kd) : records m ρ K ⊢ cellInv ER (exRd m ρ) (K ck) (kcell ck) := by
  have h : (bigSep Finset.univ fun ck : Dev nD × Kd => (cellInv ER (exRd m ρ) (K ck) (kcell ck) : sProp 𝕄)) ⊢ cellInv ER (exRd m ρ) (K ck) (kcell ck) :=
    bigSep_elim (Finset.mem_univ ck)
  unfold records
  iintro ⟨HI, -, -⟩
  iapply h; iexact HI
theorem reached_at (ck : Dev nD × Kd) : records m ρ K ⊢ reached ER (kcell ck) 0 := by
  have h : (bigSep Finset.univ fun ck : Dev nD × Kd => (reached ER (kcell ck) 0 : sProp 𝕄)) ⊢ reached ER (kcell ck) 0 :=
    bigSep_elim (Finset.mem_univ ck)
  unfold records
  iintro ⟨-, HR, -⟩
  iapply h; iexact HR
theorem levels_at : records m ρ K ⊢ levAts L lv := by
  unfold records
  iintro ⟨-, -, HL⟩
  iexact HL

/-- Device `c` owes `O`, whatever it has waited for. -/
def owing (c : Dev nD) (O : CellTallies nD τ sig Unit) : sProp 𝕄 := iprop(∃ W, owes (c : Thread nD τ) O W)

/-- For the signal of step `r`: the duty of the device signalled, and the slot handed over. -/
def sigRes (c : Dev nD) (r : Fin 15) : sProp 𝕄 := iprop(dutyTok ER (barCell (up r c)) 0 r ∗ ∃ f, slotPts c r f)
/-- For the transfer of step `r`: the rows sent, the slot received into, and the duties of both semaphores. -/
def sendRes (c : Dev nD) (r : Fin 15) : sProp 𝕄 :=
  iprop(rowPts c r (accAt m ρ c) ∗ barPay c r ∗ dutyTok ER (sendCell c r) 0 0 ∗ dutyTok ER (recvCell (dn r c) r) 0 0)
/-- The credit of the transfer of step `r` on its own send semaphore. -/
def sentRes (c : Dev nD) (r : Fin 15) : sProp 𝕄 := cred (tallyAt (sendCell c r) () N)
/-- For the two waits of step `r`: position and credit at either semaphore. -/
def sWait (c : Dev nD) (r : Fin 15) : sProp 𝕄 := iprop(atPos ER (sendCell c r) 0 ∅ 0 ∗ cred (tallyAt (sendCell c r) () N))
def rWait (c : Dev nD) (r : Fin 15) : sProp 𝕄 := iprop(atPos ER (recvCell c r) 0 ∅ 0 ∗ cred (tallyAt (recvCell c r) () N))
/-- After them: the rows back, the slot filled, both counters at zero. -/
def sDone (c : Dev nD) (r : Fin 15) : sProp 𝕄 := iprop(rowPts c r (accAt m ρ c) ∗ semVal (sendCell c r) 0)
def rDone (c : Dev nD) (r : Fin 15) : sProp 𝕄 := iprop(slotPts c r (comAt m ρ c) ∗ semVal (recvCell c r) 0)

/-- Before the signal of step `k`. -/
def SigSt (c : Dev nD) (k : ℕ) (X : sProp 𝕄) : sProp 𝕄 :=
  iprop(records m ρ K ∗ owing c (owedSend c 0 + owedSig c k) ∗ bigSep (later k) (sigRes c) ∗ X)
/-- Before the transfer of step `k`. -/
def SendSt (c : Dev nD) (k : ℕ) (X : sProp 𝕄) : sProp 𝕄 :=
  iprop(records m ρ K ∗ owing c (owedSend c k) ∗ bigSep (later k) (sendRes m ρ c) ∗ bigSep (before k) (sentRes c) ∗ X)
/-- Before the wait of step `k` on the send semaphore. -/
def WaitSt (c : Dev nD) (k : ℕ) (X : sProp 𝕄) : sProp 𝕄 :=
  iprop(records m ρ K ∗ owing c 0 ∗ (bigSep (later k) (sWait c) ∗ bigSep (before k) (sDone m ρ c))
    ∗ (bigSep (later k) (rWait c) ∗ bigSep (before k) (rDone m ρ c)) ∗ X)
/-- Between the two waits of step `k`. -/
def MidSt (c : Dev nD) (k : ℕ) (X : sProp 𝕄) : sProp 𝕄 :=
  iprop(records m ρ K ∗ owing c 0 ∗ (bigSep (later (k + 1)) (sWait c) ∗ bigSep (before (k + 1)) (sDone m ρ c))
    ∗ (bigSep (later k) (rWait c) ∗ bigSep (before k) (rDone m ρ c)) ∗ X)

/-- The signal of step `k`, to the device `p` the kernel computed. -/
theorem step_signal (c p : Dev nD) (k : ℕ) (hk : k < 15) (hp : p = up ⟨k, hk⟩ c) {n : ℕ} (hn : n = 1)
    {X : sProp 𝕄} {α : Type} {Q : α → sProp 𝕄} {kont : PUnit → Prog (TpuEff nD τ sig (Elt F) Λ₀ .tc) α}
    (h : SigSt m ρ K c (k + 1) X ⊢ Run c (kont ⟨⟩) Q) :
    SigSt m ρ K c k X ⊢ Run c (.op (.semSignal (p : Thread nD τ) barS n) kont) Q := by
  subst hp hn
  rw [SigSt, later_peel hk, owedSig_peel c hk, ← add_assoc]
  unfold owing sigRes
  iintro ⟨#HR, ⟨%W, HO⟩, ⟨⟨Ht, Hs⟩, Hrest⟩, HX⟩
  iapply (Rounds.wp_signal 𝒱₀ ER (exRd m ρ) (c : Thread nD τ) none (dst := (up ⟨k, hk⟩ c : Thread nD τ)) (κ := K (up ⟨k, hk⟩ c, .inl ()))
      (d := ⟨k, hk⟩) (by erw [duties_cell m ρ (up ⟨k, hk⟩ c) (.inl ())]; exact Finset.mem_univ _) (amount_cell m ρ (up ⟨k, hk⟩ c) (.inl ()) ⟨k, hk⟩) ()
      (owedSend c 0 + owedSig c (k + 1)) rfl) $$ [HO Ht Hs]
  · isplitr; · iapply (inv_at m ρ K (up ⟨k, hk⟩ c, .inl ())); iexact HR
    isplitl [HO]; · iexact HO
    isplitl [Ht]; · iexact Ht
    isplitl [Hs]
    · iapply (Entails.of_eq (payload_cell m ρ (up ⟨k, hk⟩ c) (.inl ()) ⟨k, hk⟩).symm)
      unfold payOf barPay; rw [dn_up]; iexact Hs
    · iapply (reached_at m ρ K (up ⟨k, hk⟩ c, .inl ())); iexact HR
  iintro HO
  iapply h
  unfold SigSt owing sigRes
  isplitr; · iexact HR
  isplitl [HO]; · iexists W; iexact HO
  isplitl [Hrest] <;> iassumption

/-- The transfer of step `k`, to the device `p` the kernel computed. -/
theorem step_send (c p : Dev nD) (k : ℕ) (hk : k < 15) (hp : p = dn ⟨k, hk⟩ c)
    {hsc : (slotM ⟨k, hk⟩ : Memref sig (Dev.tc p : Thread nD τ).2.kind .vmem S32x512 .f32).view.ref.isScScratch = false}
    {hsrc : (rowM c ⟨k, hk⟩).view.WordExact} {hdst : (slotM ⟨k, hk⟩).view.WordExact}
    {hsem : DmaTarget.Typed .vmem (.dma (recvS ⟨k, hk⟩)) (.remote (Dev.tc p : Thread nD τ) (slotM ⟨k, hk⟩) (.dma (sendS ⟨k, hk⟩)) hsc)}
    {X : sProp 𝕄} {α : Type} {Q : α → sProp 𝕄} {kont : PUnit → Prog (TpuEff nD τ sig (Elt F) Λ₀ .tc) α}
    (h : SendSt m ρ K c (k + 1) X ⊢ Run c (kont ⟨⟩) Q) :
    SendSt m ρ K c k X ⊢ Run c
      (.op (.enqueueDma (rowM c ⟨k, hk⟩) (.remote (Dev.tc p : Thread nD τ) (slotM ⟨k, hk⟩) (.dma (sendS ⟨k, hk⟩)) hsc) (.dma (recvS ⟨k, hk⟩)) hsrc hdst hsem) kont) Q := by
  subst hp
  rw [SendSt, later_peel hk, owedSend_peel c hk]
  unfold owing sendRes barPay rowPts slotPts
  rw [← row_set, ← slot_set]
  iintro ⟨#HR, ⟨%W, HO⟩, ⟨⟨Hrow, ⟨%fd, Hslot⟩, Hts, Htr⟩, Hrest⟩, Hsent, HX⟩
  have hpay₁ : ((rowM c ⟨k, hk⟩).view.loc (c : Thread nD τ) ↦[(rowM c ⟨k, hk⟩).view.set]{fullShare} accAt m ρ c)
      ⊢ (exRd m ρ).payload (sendCell c ⟨k, hk⟩) 0 0 := by
    erw [payload_cell m ρ c (.inr (false, ⟨k, hk⟩))]; unfold payOf rowPts; rw [row_set]
  have hpay₂ : ((slotM ⟨k, hk⟩).view.loc (dn ⟨k, hk⟩ c : Thread nD τ) ↦[(slotM ⟨k, hk⟩).view.set]{fullShare}
        (slotM ⟨k, hk⟩).view.write (Elt F) fd ((rowM c ⟨k, hk⟩).view.read (Elt F) (accAt m ρ c)) Finset.univ)
      ⊢ (exRd m ρ).payload (recvCell (dn ⟨k, hk⟩ c) ⟨k, hk⟩) 0 0 := by
    erw [payload_cell m ρ (dn ⟨k, hk⟩ c) (.inr (true, ⟨k, hk⟩))]; unfold payOf slotPts; rw [slot_set]
    refine Entails.of_eq (pointsTo_congr fun i hi => ?_)
    have e := landed_eq m ρ (dn ⟨k, hk⟩ c) ⟨k, hk⟩ fd i hi
    rw [up_dn] at e
    exact e
  iapply (Rounds.wp_send_pointsTo (defs := defs₀ (F := F)) 𝒱₀ ER (exRd m ρ) (c : Thread nD τ) none
      (κ₁ := K (c, .inr (false, ⟨k, hk⟩))) (κ₂ := K (dn ⟨k, hk⟩ c, .inr (true, ⟨k, hk⟩)))
      (r₁ := 0) (r₂ := 0) (d₁ := 0) (d₂ := 0) (fd := fd) (hsc := hsc) (hsrc := hsrc) (hdst := hdst) (hsem := hsem) (k := kont) (Q := Q) (Es := Set.univ)
      (by erw [duties_cell m ρ c (.inr (false, ⟨k, hk⟩))]; exact Finset.mem_singleton_self _)
      (by erw [duties_cell m ρ (dn ⟨k, hk⟩ c) (.inr (true, ⟨k, hk⟩))]; exact Finset.mem_singleton_self _)
      () () N (slot_credit ⟨k, hk⟩) (amount_cell m ρ c (.inr (false, ⟨k, hk⟩)) 0) (amount_cell m ρ (dn ⟨k, hk⟩ c) (.inr (true, ⟨k, hk⟩)) 0)
      (owedSend c (k + 1)) rfl (W := W) hpay₁ hpay₂ (by routes)) $$ [HO Hrow Hslot Hts Htr]
  · isplitr; · iapply (inv_at m ρ K (c, .inr (false, ⟨k, hk⟩))); iexact HR
    isplitr; · iapply (inv_at m ρ K (dn ⟨k, hk⟩ c, .inr (true, ⟨k, hk⟩))); iexact HR
    isplitl [Hrow]; · iexact Hrow
    isplitl [Hslot]; · iexact Hslot
    isplitl [HO]; · iexact HO
    isplitl [Hts]; · iexact Hts
    isplitr; · iapply (reached_at m ρ K (c, .inr (false, ⟨k, hk⟩))); iexact HR
    isplitl [Htr]; · iexact Htr
    iapply (reached_at m ρ K (dn ⟨k, hk⟩ c, .inr (true, ⟨k, hk⟩))); iexact HR
  iintro ⟨Hc, HO⟩
  iapply h
  rw [SendSt, before_push hk]
  unfold owing
  isplitr; · iexact HR
  isplitl [HO]; · iexists W; iexact HO
  isplitl [Hrest]; · unfold sendRes barPay rowPts slotPts; iexact Hrest
  isplitl [Hc Hsent]
  · isplitl [Hc]; · unfold sentRes; iexact Hc
    iexact Hsent
  iexact HX

/-- A device that owes nothing waits for a transfer's credit on its cell of kind `i`: it has the cell's payload, and the cell closed. -/
theorem wait_close (c : Dev nD) (i : Bool × Fin 15) {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (osem i) N P)
    {α : Type} {Q : α → sProp 𝕄} {kont : PUnit → Prog (TpuEff nD τ sig (Elt F) Λ₀ .tc) α}
    {A B : sProp 𝕄} (hpre : A ⊢ iprop((records m ρ K ∗ owing c 0) ∗ (atPos ER (kcell (c, .inr i)) 0 ∅ 0 ∗ cred (tallyAt (kcell (c, .inr i)) () N)) ∗ B))
    (h : iprop((records m ρ K ∗ owing c 0) ∗ (payOf m ρ c 0 (some (.inr i)) ∗ semVal (kcell (c, .inr i)) 0) ∗ B) ⊢ Run c (kont ⟨⟩) Q) :
    A ⊢ Run c (.op w kont) Q := by
  refine hpre.trans ?_
  unfold owing
  iintro ⟨⟨#HR, ⟨%W, HO⟩⟩, ⟨Hat, Hc⟩, HB⟩
  iapply (Rounds.wp_wait_rest_token 𝒱₀ ER (exRd m ρ) (c : Thread nD τ) none (κ := K (c, .inr i)) hw (Set.mem_univ _) () (O := 0) (W := W) (R := 0) (m := 0)
      (T := ∅) (by rw [Nat.zero_add]; exact (expect_dma m ρ c i).symm)) $$ [HO Hat Hc]
  · isplitr; · iapply (inv_at m ρ K (c, .inr i)); iexact HR
    isplitl [Hc]; · iexact Hc
    isplitl [HO]; · iexact HO
    isplitr; · rw [MayWait_zero]; iempintro
    iexact Hat
  iintro ⟨HO, Hat, -, Hpay⟩
  ihave Hp := (Entails.of_eq (rest_dma m ρ c i)) $$ Hpay
  imod (Rounds.cell_close ER (exRd m ρ) (Set.mem_univ (K (c, .inr i))) (fun h => h) (R := 0 + 1) (duties_later m ρ (kcell (c, .inr i)))) $$ [Hat] with Hz
  · isplitr; · iapply (inv_at m ρ K (c, .inr i)); iexact HR
    iexact Hat
  iapply h
  unfold owing
  isplitl [HO]
  · isplitr; · iexact HR
    iexists _; iexact HO
  isplitl [Hp Hz]
  · isplitl [Hp] <;> iassumption
  iexact HB

/-- The wait of step `k` on its send semaphore: the rows are back. -/
theorem step_sent (c : Dev nD) (k : ℕ) (hk : k < 15) {hsrc : (slotM ⟨k, hk⟩).view.WordExact} {hdst : (rowM c ⟨k, hk⟩).view.WordExact}
    {X : sProp 𝕄} {α : Type} {Q : α → sProp 𝕄} {kont : PUnit → Prog (TpuEff nD τ sig (Elt F) Λ₀ .tc) α}
    (h : MidSt m ρ K c k X ⊢ Run c (kont ⟨⟩) Q) :
    WaitSt m ρ K c k X ⊢ Run c (.op (.waitDma2 (sendS ⟨k, hk⟩) (slotM ⟨k, hk⟩) (rowM c ⟨k, hk⟩) hsrc hdst) kont) Q := by
  refine wait_close m ρ K c (false, ⟨k, hk⟩)
    (fun P => (wpE_waitDma2_eq 𝒱₀ (c : Thread nD τ) none Set.univ (hsrc := hsrc) (hdst := hdst) P).trans (by rw [row_credit]; rfl))
    (B := iprop((bigSep (later (k + 1)) (sWait c) ∗ bigSep (before k) (sDone m ρ c)) ∗ (bigSep (later k) (rWait c) ∗ bigSep (before k) (rDone m ρ c)) ∗ X)) ?_ ?_
  · rw [WaitSt, later_peel hk (sWait c)]
    unfold sWait
    iintro ⟨HR, HO, ⟨⟨Hn, Hl⟩, Hb⟩, Hr, HX⟩
    isplitl [HR HO]; · isplitl [HR] <;> iassumption
    isplitl [Hn]; · iexact Hn
    isplitl [Hl Hb]; · isplitl [Hl] <;> iassumption
    isplitl [Hr] <;> iassumption
  · iintro ⟨⟨HR, HO⟩, Hn, ⟨Hl, Hb⟩, Hr, HX⟩
    iapply h
    rw [MidSt, before_push hk (sDone m ρ c)]
    isplitl [HR]; · iexact HR
    isplitl [HO]; · iexact HO
    isplitl [Hl Hn Hb]
    · isplitl [Hl]; · iexact Hl
      isplitl [Hn]; · unfold sDone; iexact Hn
      iexact Hb
    isplitl [Hr] <;> iassumption

/-- The wait of step `k` on its receive semaphore: the slot is filled. -/
theorem step_received (c : Dev nD) (k : ℕ) (hk : k < 15) {hsrc : (rowM c ⟨k, hk⟩).view.WordExact} {hdst : (slotM ⟨k, hk⟩).view.WordExact}
    {X : sProp 𝕄} {α : Type} {Q : α → sProp 𝕄} {kont : PUnit → Prog (TpuEff nD τ sig (Elt F) Λ₀ .tc) α}
    (h : WaitSt m ρ K c (k + 1) X ⊢ Run c (kont ⟨⟩) Q) :
    MidSt m ρ K c k X ⊢ Run c (.op (.waitDma2 (recvS ⟨k, hk⟩) (rowM c ⟨k, hk⟩) (slotM ⟨k, hk⟩) hsrc hdst) kont) Q := by
  refine wait_close m ρ K c (true, ⟨k, hk⟩)
    (fun P => (wpE_waitDma2_eq 𝒱₀ (c : Thread nD τ) none Set.univ (hsrc := hsrc) (hdst := hdst) P).trans (by rw [slot_credit]; rfl))
    (B := iprop((bigSep (later (k + 1)) (sWait c) ∗ bigSep (before (k + 1)) (sDone m ρ c)) ∗ (bigSep (later (k + 1)) (rWait c) ∗ bigSep (before k) (rDone m ρ c)) ∗ X)) ?_ ?_
  · rw [MidSt, later_peel hk (rWait c)]
    unfold rWait
    iintro ⟨HR, HO, Hs, ⟨⟨Hn, Hl⟩, Hb⟩, HX⟩
    isplitl [HR HO]; · isplitl [HR] <;> iassumption
    isplitl [Hn]; · iexact Hn
    isplitl [Hs]; · iexact Hs
    isplitr [HX]; · isplitl [Hl] <;> iassumption
    iexact HX
  · iintro ⟨⟨HR, HO⟩, Hn, Hs, ⟨Hl, Hb⟩, HX⟩
    iapply h
    rw [WaitSt, before_push hk (rDone m ρ c)]
    isplitl [HR]; · iexact HR
    isplitl [HO]; · iexact HO
    isplitl [Hs]; · iexact Hs
    isplitr [HX]
    · isplitl [Hl]; · iexact Hl
      isplitl [Hn]; · unfold rDone; iexact Hn
      iexact Hb
    iexact HX

end Cert.Exchange

end
-- ==== Proof.Parts.lean ====
/-
# The body in its parts

The printed body is a sequence of parts; for each part, what is held before it and what it leaves. The parts that only
signal, send or wait are chains of the step lemmas; between the phases the resources are regrouped.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Shape (idx3_ext)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kd → ℕ)

theorem hx : (xM : Memref sig .tc .vmem S512x256 .f32).IsWhole := Memref.isWhole_whole _
theorem hrw : (rwM : Memref sig .tc .vmem S256x64 .f32).IsWhole := Memref.isWhole_whole _
theorem hidx : (idxM : Memref sig .tc .vmem S512x2 .i32).IsWhole := Memref.isWhole_whole _
theorem hew : (ewM : Memref sig .tc .vmem S4x256x512 .f32).IsWhole := Memref.isWhole_whole _
theorem hout : (outM : Memref sig .tc .vmem S32x512 .f32).IsWhole := Memref.isWhole_whole _
theorem hacc : (accM : Memref sig .tc .vmem S512x512 .f32).IsWhole := Memref.isWhole_whole _
theorem hcom : (comM : Memref sig .tc .vmem S15x32x512 .f32).IsWhole := Memref.isWhole_whole _

theorem zero2 : (![0, 0] : Fin 2 → Nat) = fun _ => 0 := funext fun a => by fin_cases a <;> rfl
theorem zero3 : (![0, 0, 0] : Fin 3 → Nat) = fun _ => 0 := funext fun a => by fin_cases a <;> rfl

/-- Device `c`'s buffer `b` holds `f`. -/
abbrev holds (c : Dev nD) (b : Ref sig .tc) (f : Buf (Elt F) ((c : Thread nD τ).loc b)) : sProp 𝕄 := (((c : Thread nD τ).loc b) ↦{fullShare} f)

/-- The four inputs in their staging buffers. -/
def Ins (c : Dev nD) : sProp 𝕄 :=
  iprop(holds c cc0_stg0_0 (xAt m ρ c) ∗ holds c cc0_stg1_0 (rwAt m ρ c) ∗ holds c cc0_stg2_0 (idxAt m ρ c) ∗ holds c cc0_stg3_0 (ewAt m ρ c))

/-- A program that only returns. -/
theorem run_ret (c : Dev nD) {α : Type} {Q : α → sProp 𝕄} {P : sProp 𝕄} {a : α} (h : P ⊢ Q a) : P ⊢ Run c (.ret a) Q := by
  rw [Run, wp_ret]; iintro H; imodintro; iapply h; iexact H

/-- A program in two parts, from a proof for the first whatever its continuation. -/
theorem run_bind (c : Dev nD) {α β : Type} {Q : β → sProp 𝕄} {P : sProp 𝕄} {p : Prog (TpuEff nD τ sig (Elt F) Λ₀ .tc) α} {k : α → Prog (TpuEff nD τ sig (Elt F) Λ₀ .tc) β}
    (h : P ⊢ Run c p fun a => Run c (k a) Q) : P ⊢ Run c (p >>= k) Q := by
  rw [Run, wp_bind]; exact h

/-! ## Computing the partial sum -/

/-- The routing weights, computed from the inputs. -/
theorem run_part1 (c : Dev nD) {Q : _ → sProp 𝕄} {R : sProp 𝕄}
    (h : iprop(Ins m ρ c ∗ R) ⊢ Q ⟨c, pos c, k0_pay2 (xAt m ρ c), iota .tc S512x64 32 [1] iota_S512x64_d1_w32, k0_pay3 (xAt m ρ c) (rwAt m ρ c) (idxAt m ρ c),
      k0_pay4 (F := F), k0_pay5 c (xAt m ρ c) (rwAt m ρ c) (idxAt m ρ c)⟩) :
    iprop(Ins m ρ c ∗ R) ⊢ Run c (k0_part1 xM hx rwM hrw idxM hidx ewM hew outM hout accM hacc comM hcom cc0_scratch2 cc0_scratch3) Q := by
  rw [k0_part1_eq_skeleton]; unfold k0_part1_skel
  simp only [Prog.lift, Prog.bind_op, Prog.bind_ret, Prog.pure_eq_ret, wp_deviceId]
  unfold Ins at h ⊢
  iintro ⟨⟨Hx, Hrw, Hidx, Hew⟩, HR⟩
  iapply (wp_load 𝒱₀ (c : Thread nD τ) none Set.univ (m := xM) (Finset.subset_univ _)) $$ Hx; iintro Hx
  rw [show ∀ f, xM.view.readAt (Elt F) (Rect.unit (s := S512x256) ![0, 0] S512x256.size inb_S512x256_S512x256_0_0).toLoadRect f = f from
    Memref.readAt_unit_zero (Elt F) cc0_stg0_0 zero2 _]
  iapply (wp_load 𝒱₀ (c : Thread nD τ) none Set.univ (m := rwM) (Finset.subset_univ _)) $$ Hrw; iintro Hrw
  rw [show ∀ f, rwM.view.readAt (Elt F) (Rect.unit (s := S256x64) ![0, 0] S256x64.size inb_S256x64_S256x64_0_0).toLoadRect f = f from
    Memref.readAt_unit_zero (Elt F) cc0_stg1_0 zero2 _]
  iapply (wp_load 𝒱₀ (c : Thread nD τ) none Set.univ (m := idxM) (Finset.subset_univ _)) $$ Hidx; iintro Hidx
  rw [show ∀ f, idxM.view.readAt (Elt F) (Rect.unit (s := S512x2) ![0, 0] S512x2.size inb_S512x2_S512x2_0_0).toLoadRect f = f from
    Memref.readAt_unit_zero (Elt F) cc0_stg2_0 zero2 _]
  iapply (run_ret c h)
  isplitr [HR]
  · isplitl [Hx]; · iexact Hx
    isplitl [Hrw]; · iexact Hrw
    isplitl [Hidx] <;> iassumption
  iexact HR

/-- The first three of the device's experts. -/
theorem run_part2 (c : Dev nD) {Q : _ → sProp 𝕄} {R : sProp 𝕄} (v2 : BitVec 32) (v4 : FVec F S512x256 .f32) (v17 : IVec S512x64 32) (v32 : FVec F S512x64 .f32)
    (v33 : FVec F S512x512 .f32) (v40 : FVec F S512 .f32)
    (h : iprop(Ins m ρ c ∗ R) ⊢ Q ⟨k0_pay6 v2 v4 v17 v32 v33 v40 (expertOf (ewAt m ρ c) 0) (expertOf (ewAt m ρ c) 1) (expertOf (ewAt m ρ c) 2), k0_pay7 v2⟩) :
    iprop(Ins m ρ c ∗ R) ⊢ Run c (k0_part2 xM hx rwM hrw idxM hidx ewM hew outM hout accM hacc comM hcom cc0_scratch2 cc0_scratch3 v2 v4 v17 v32 v33 v40) Q := by
  rw [k0_part2_eq_skeleton]; unfold k0_part2_skel
  simp only [Prog.lift, Prog.bind_op, Prog.bind_ret, Prog.pure_eq_ret]
  unfold Ins at h ⊢
  iintro ⟨⟨Hx, Hrw, Hidx, Hew⟩, HR⟩
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (run_ret c h)
  isplitr [HR]
  · isplitl [Hx]; · iexact Hx
    isplitl [Hrw]; · iexact Hrw
    isplitl [Hidx] <;> iassumption
  iexact HR

/-- The fourth expert, and the partial sum stored; then the signals of the first three steps. -/
theorem run_part3 (c : Dev nD) {Q : _ → sProp 𝕄} {X : sProp 𝕄} (v2 : BitVec 32) (v4 : FVec F S512x256 .f32) (v17 : IVec S512x64 32) (v32 : FVec F S512x64 .f32)
    (v75 : FVec F S512x512 .f32) (v78 : IVec S512x64 32)
    (h : ∀ w, SigSt m ρ K c 3 iprop(Ins m ρ c ∗ holds c cc0_scratch0 (k0_pay8 v4 v17 v32 v75 v78 (expertOf (ewAt m ρ c) 3)) ∗ X)
      ⊢ Q ⟨SemArray.scalar (sig.barrier 0 rfl), w, 1#32⟩) :
    SigSt m ρ K c 0 iprop(Ins m ρ c ∗ (∃ f, holds c cc0_scratch0 f) ∗ X) ⊢ Run c (k0_part3 xM hx rwM hrw idxM hidx ewM hew outM hout accM hacc comM hcom cc0_scratch2 cc0_scratch3 c v2 v4 v17 v32 v75 v78) Q := by
  rw [k0_part3_eq_skeleton]; unfold k0_part3_skel
  simp only [semSignalWord, Prog.lift, Prog.bind_op, Prog.bind_ret, Prog.pure_eq_ret]
  unfold SigSt Ins
  iintro ⟨HR, HO, Hsig, ⟨Hx, Hrw, Hidx, Hew⟩, ⟨%f, Hacc⟩, HX⟩
  iapply (wp_load 𝒱₀ (c : Thread nD τ) none Set.univ (m := ewM) (Finset.subset_univ _)) $$ Hew; iintro Hew
  iapply (wp_load 𝒱₀ (c : Thread nD τ) none Set.univ (m := accM) (Finset.subset_univ _)) $$ Hacc; iintro Hacc
  iapply (wp_store 𝒱₀ (c : Thread nD τ) none Set.univ (m := accM) (r := Rect.unit (s := S512x512) ![0, 0] S512x512.size inb_S512x512_S512x512_0_0)
    (Mk := Finset.univ) (Finset.subset_univ _)) $$ Hacc; iintro Hacc
  rw [show ∀ w, ((accM : Memref sig .tc .vmem S512x512 .f32).access (Rect.unit (s := S512x512) ![0, 0] S512x512.size inb_S512x512_S512x512_0_0)
    : View sig .tc _ _ _).write (Elt F) f w Finset.univ = w from fun w => Memref.write_access_unit_zero_univ (Elt F) cc0_scratch0 zero2 _ f w]
  iapply (step_signal m ρ K c ⟨k0_dev1 c, k0_dev1_lt c⟩ 0 (by decide) (Fin.ext (k0_dev1_eq c)) rfl
    (step_signal m ρ K c ⟨k0_dev2 c, k0_dev2_lt c⟩ 1 (by decide) (Fin.ext (k0_dev2_eq c)) rfl
      (step_signal m ρ K c ⟨k0_dev3 c, k0_dev3_lt c⟩ 2 (by decide) (Fin.ext (k0_dev3_eq c)) rfl (run_ret c (h _)))))
  unfold SigSt Ins
  isplitl [HR]; · iexact HR
  isplitl [HO]; · iexact HO
  isplitl [Hsig]; · iexact Hsig
  isplitl [Hx Hrw Hidx Hew]
  · isplitl [Hx]; · iexact Hx
    isplitl [Hrw]; · iexact Hrw
    isplitl [Hidx] <;> iassumption
  isplitl [Hacc]; · iexact Hacc
  iexact HX

end Cert.Exchange

end
-- ==== Proof.Phases.lean ====
/-
# The exchange's parts, and the regrouping between its phases

The parts of the body which only signal, send and wait, as chains of the step lemmas. The accumulator and the landing
buffer, whole, are their blocks of rows and their slots.
-/
module

public import proofs.«01_k».proof.Proof.Parts

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Shape (idx3_ext)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kd → ℕ)

/-! ## The parts -/

/-- The signals of steps 3 to 8. -/
theorem run_part4 (c : Dev nD) {Q : _ → sProp 𝕄} {X : sProp 𝕄} (v2 w u : BitVec 32) (h : ∀ w, SigSt m ρ K c 9 X ⊢ Q ⟨w, 1#32⟩) :
    SigSt m ρ K c 3 X ⊢ Run c (k0_part4 xM hx rwM hrw idxM hidx ewM hew outM hout accM hacc comM hcom cc0_scratch2 cc0_scratch3 c v2 (SemArray.scalar (sig.barrier 0 rfl)) w u) Q := by
  rw [k0_part4_eq_skeleton]; unfold k0_part4_skel
  simp only [semSignalWord, Prog.lift, Prog.bind_op, Prog.bind_ret, Prog.pure_eq_ret]
  exact step_signal m ρ K c ⟨k0_dev4 c, k0_dev4_lt c⟩ 3 (by decide) (Fin.ext (k0_dev4_eq c)) rfl <|
    step_signal m ρ K c ⟨k0_dev5 c, k0_dev5_lt c⟩ 4 (by decide) (Fin.ext (k0_dev5_eq c)) rfl <|
    step_signal m ρ K c ⟨k0_dev6 c, k0_dev6_lt c⟩ 5 (by decide) (Fin.ext (k0_dev6_eq c)) rfl <|
    step_signal m ρ K c ⟨k0_dev7 c, k0_dev7_lt c⟩ 6 (by decide) (Fin.ext (k0_dev7_eq c)) rfl <|
    step_signal m ρ K c ⟨k0_dev8 c, k0_dev8_lt c⟩ 7 (by decide) (Fin.ext (k0_dev8_eq c)) rfl <|
    step_signal m ρ K c ⟨k0_dev9 c, k0_dev9_lt c⟩ 8 (by decide) (Fin.ext (k0_dev9_eq c)) rfl <|
    run_ret c (h _)

/-- The transfers of steps 0 to 1. -/
theorem run_part6 (c : Dev nD) {Q : _ → sProp 𝕄} {X : sProp 𝕄} (v2 : BitVec 32) (w : BitVec 32) (u : BitVec 32) (h : ∀ w, SendSt m ρ K c 2 X ⊢ Q w) :
    SendSt m ρ K c 0 X ⊢ Run c (k0_part6 xM hx rwM hrw idxM hidx ewM hew outM hout accM hacc comM hcom cc0_scratch2 cc0_scratch3 c v2 w u) Q := by
  rw [k0_part6_eq_skeleton]; unfold k0_part6_skel
  simp only [semSignalWord, Prog.lift, Prog.bind_op, Prog.bind_ret, Prog.pure_eq_ret]
  exact step_send m ρ K c ⟨k0_dev16 c, k0_dev16_lt c⟩ 0 (by decide) (Fin.ext (k0_dev16_eq c)) <|
    step_send m ρ K c ⟨k0_dev17 c, k0_dev17_lt c⟩ 1 (by decide) (Fin.ext (k0_dev17_eq c)) <|
    run_ret c (h _)

/-- The transfers of steps 2 to 3. -/
theorem run_part7 (c : Dev nD) {Q : _ → sProp 𝕄} {X : sProp 𝕄} (v2 : BitVec 32) (w : BitVec 32) (h : ∀ w, SendSt m ρ K c 4 X ⊢ Q w) :
    SendSt m ρ K c 2 X ⊢ Run c (k0_part7 xM hx rwM hrw idxM hidx ewM hew outM hout accM hacc comM hcom cc0_scratch2 cc0_scratch3 c v2 w) Q := by
  rw [k0_part7_eq_skeleton]; unfold k0_part7_skel
  simp only [semSignalWord, Prog.lift, Prog.bind_op, Prog.bind_ret, Prog.pure_eq_ret]
  exact step_send m ρ K c ⟨k0_dev18 c, k0_dev18_lt c⟩ 2 (by decide) (Fin.ext (k0_dev18_eq c)) <|
    step_send m ρ K c ⟨k0_dev19 c, k0_dev19_lt c⟩ 3 (by decide) (Fin.ext (k0_dev19_eq c)) <|
    run_ret c (h _)

/-- The transfers of steps 4 to 6. -/
theorem run_part8 (c : Dev nD) {Q : _ → sProp 𝕄} {X : sProp 𝕄} (v2 : BitVec 32) (h : ∀ w, SendSt m ρ K c 7 X ⊢ Q w) :
    SendSt m ρ K c 4 X ⊢ Run c (k0_part8 xM hx rwM hrw idxM hidx ewM hew outM hout accM hacc comM hcom cc0_scratch2 cc0_scratch3 c v2) Q := by
  rw [k0_part8_eq_skeleton]; unfold k0_part8_skel
  simp only [semSignalWord, Prog.lift, Prog.bind_op, Prog.bind_ret, Prog.pure_eq_ret]
  exact step_send m ρ K c ⟨k0_dev20 c, k0_dev20_lt c⟩ 4 (by decide) (Fin.ext (k0_dev20_eq c)) <|
    step_send m ρ K c ⟨k0_dev21 c, k0_dev21_lt c⟩ 5 (by decide) (Fin.ext (k0_dev21_eq c)) <|
    step_send m ρ K c ⟨k0_dev22 c, k0_dev22_lt c⟩ 6 (by decide) (Fin.ext (k0_dev22_eq c)) <|
    run_ret c (h _)

/-- The transfers of steps 7 to 8. -/
theorem run_part9 (c : Dev nD) {Q : _ → sProp 𝕄} {X : sProp 𝕄} (v2 : BitVec 32) (w : BitVec 32) (h : ∀ w, SendSt m ρ K c 9 X ⊢ Q w) :
    SendSt m ρ K c 7 X ⊢ Run c (k0_part9 xM hx rwM hrw idxM hidx ewM hew outM hout accM hacc comM hcom cc0_scratch2 cc0_scratch3 c v2 w) Q := by
  rw [k0_part9_eq_skeleton]; unfold k0_part9_skel
  simp only [semSignalWord, Prog.lift, Prog.bind_op, Prog.bind_ret, Prog.pure_eq_ret]
  exact step_send m ρ K c ⟨k0_dev23 c, k0_dev23_lt c⟩ 7 (by decide) (Fin.ext (k0_dev23_eq c)) <|
    step_send m ρ K c ⟨k0_dev24 c, k0_dev24_lt c⟩ 8 (by decide) (Fin.ext (k0_dev24_eq c)) <|
    run_ret c (h _)

/-- The transfers of steps 9 to 10. -/
theorem run_part10 (c : Dev nD) {Q : _ → sProp 𝕄} {X : sProp 𝕄} (v2 : BitVec 32) (w : BitVec 32) (h : ∀ w, SendSt m ρ K c 11 X ⊢ Q w) :
    SendSt m ρ K c 9 X ⊢ Run c (k0_part10 xM hx rwM hrw idxM hidx ewM hew outM hout accM hacc comM hcom cc0_scratch2 cc0_scratch3 c v2 w) Q := by
  rw [k0_part10_eq_skeleton]; unfold k0_part10_skel
  simp only [semSignalWord, Prog.lift, Prog.bind_op, Prog.bind_ret, Prog.pure_eq_ret]
  exact step_send m ρ K c ⟨k0_dev25 c, k0_dev25_lt c⟩ 9 (by decide) (Fin.ext (k0_dev25_eq c)) <|
    step_send m ρ K c ⟨k0_dev26 c, k0_dev26_lt c⟩ 10 (by decide) (Fin.ext (k0_dev26_eq c)) <|
    run_ret c (h _)

/-- The transfers of steps 11 to 12. -/
theorem run_part11 (c : Dev nD) {Q : _ → sProp 𝕄} {X : sProp 𝕄} (v2 : BitVec 32) (h : ∀ w, SendSt m ρ K c 13 X ⊢ Q w) :
    SendSt m ρ K c 11 X ⊢ Run c (k0_part11 xM hx rwM hrw idxM hidx ewM hew outM hout accM hacc comM hcom cc0_scratch2 cc0_scratch3 c v2) Q := by
  rw [k0_part11_eq_skeleton]; unfold k0_part11_skel
  simp only [semSignalWord, Prog.lift, Prog.bind_op, Prog.bind_ret, Prog.pure_eq_ret]
  exact step_send m ρ K c ⟨k0_dev27 c, k0_dev27_lt c⟩ 11 (by decide) (Fin.ext (k0_dev27_eq c)) <|
    step_send m ρ K c ⟨k0_dev28 c, k0_dev28_lt c⟩ 12 (by decide) (Fin.ext (k0_dev28_eq c)) <|
    run_ret c (h _)

/-- The waits of steps 1 and 2. -/
theorem run_part13 (c : Dev nD) {Q : _ → sProp 𝕄} {X : sProp 𝕄} (w : BitVec 32) (u : BitVec 32) (h : WaitSt m ρ K c 3 X ⊢ Q ⟨⟩) :
    WaitSt m ρ K c 1 X ⊢ Run c (k0_part13 xM hx rwM hrw idxM hidx ewM hew outM hout accM hacc comM hcom cc0_scratch2 cc0_scratch3 c w u) Q := by
  rw [k0_part13_eq_skeleton]; unfold k0_part13_skel
  simp only [semSignalWord, Prog.lift, Prog.bind_op, Prog.bind_ret, Prog.pure_eq_ret]
  exact step_sent m ρ K c 1 (by decide) <|
    step_received m ρ K c 1 (by decide) <|
    step_sent m ρ K c 2 (by decide) <|
    step_received m ρ K c 2 (by decide) <|
    run_ret c h

/-- The waits of steps 3 and 4. -/
theorem run_part14 (c : Dev nD) {Q : _ → sProp 𝕄} {X : sProp 𝕄} (w : BitVec 32) (u : BitVec 32) (h : WaitSt m ρ K c 5 X ⊢ Q ⟨⟩) :
    WaitSt m ρ K c 3 X ⊢ Run c (k0_part14 xM hx rwM hrw idxM hidx ewM hew outM hout accM hacc comM hcom cc0_scratch2 cc0_scratch3 c w u) Q := by
  rw [k0_part14_eq_skeleton]; unfold k0_part14_skel
  simp only [semSignalWord, Prog.lift, Prog.bind_op, Prog.bind_ret, Prog.pure_eq_ret]
  exact step_sent m ρ K c 3 (by decide) <|
    step_received m ρ K c 3 (by decide) <|
    step_sent m ρ K c 4 (by decide) <|
    step_received m ρ K c 4 (by decide) <|
    run_ret c h

/-- The waits of steps 5 and 6. -/
theorem run_part15 (c : Dev nD) {Q : _ → sProp 𝕄} {X : sProp 𝕄} (w : BitVec 32) (u : BitVec 32) (h : WaitSt m ρ K c 7 X ⊢ Q ⟨⟩) :
    WaitSt m ρ K c 5 X ⊢ Run c (k0_part15 xM hx rwM hrw idxM hidx ewM hew outM hout accM hacc comM hcom cc0_scratch2 cc0_scratch3 c w u) Q := by
  rw [k0_part15_eq_skeleton]; unfold k0_part15_skel
  simp only [semSignalWord, Prog.lift, Prog.bind_op, Prog.bind_ret, Prog.pure_eq_ret]
  exact step_sent m ρ K c 5 (by decide) <|
    step_received m ρ K c 5 (by decide) <|
    step_sent m ρ K c 6 (by decide) <|
    step_received m ρ K c 6 (by decide) <|
    run_ret c h

/-- The waits of steps 7 and 8. -/
theorem run_part16 (c : Dev nD) {Q : _ → sProp 𝕄} {X : sProp 𝕄} (w : BitVec 32) (u : BitVec 32) (h : WaitSt m ρ K c 9 X ⊢ Q ⟨⟩) :
    WaitSt m ρ K c 7 X ⊢ Run c (k0_part16 xM hx rwM hrw idxM hidx ewM hew outM hout accM hacc comM hcom cc0_scratch2 cc0_scratch3 c w u) Q := by
  rw [k0_part16_eq_skeleton]; unfold k0_part16_skel
  simp only [semSignalWord, Prog.lift, Prog.bind_op, Prog.bind_ret, Prog.pure_eq_ret]
  exact step_sent m ρ K c 7 (by decide) <|
    step_received m ρ K c 7 (by decide) <|
    step_sent m ρ K c 8 (by decide) <|
    step_received m ρ K c 8 (by decide) <|
    run_ret c h

/-- The waits of steps 9 and 10, and the first of step 11. -/
theorem run_part17 (c : Dev nD) {Q : _ → sProp 𝕄} {X : sProp 𝕄} (w : BitVec 32) (u : BitVec 32) (h : MidSt m ρ K c 11 X ⊢ Q ⟨⟩) :
    WaitSt m ρ K c 9 X ⊢ Run c (k0_part17 xM hx rwM hrw idxM hidx ewM hew outM hout accM hacc comM hcom cc0_scratch2 cc0_scratch3 c w u) Q := by
  rw [k0_part17_eq_skeleton]; unfold k0_part17_skel
  simp only [semSignalWord, Prog.lift, Prog.bind_op, Prog.bind_ret, Prog.pure_eq_ret]
  exact step_sent m ρ K c 9 (by decide) <|
    step_received m ρ K c 9 (by decide) <|
    step_sent m ρ K c 10 (by decide) <|
    step_received m ρ K c 10 (by decide) <|
    step_sent m ρ K c 11 (by decide) <|
    run_ret c h

/-- The waits from the second of step 11 to the first of step 13. -/
theorem run_part18 (c : Dev nD) {Q : _ → sProp 𝕄} {X : sProp 𝕄} (w : BitVec 32) (u : BitVec 32) (h : MidSt m ρ K c 13 X ⊢ Q ⟨⟩) :
    MidSt m ρ K c 11 X ⊢ Run c (k0_part18 xM hx rwM hrw idxM hidx ewM hew outM hout accM hacc comM hcom cc0_scratch2 cc0_scratch3 c w u) Q := by
  rw [k0_part18_eq_skeleton]; unfold k0_part18_skel
  simp only [semSignalWord, Prog.lift, Prog.bind_op, Prog.bind_ret, Prog.pure_eq_ret]
  exact step_received m ρ K c 11 (by decide) <|
    step_sent m ρ K c 12 (by decide) <|
    step_received m ρ K c 12 (by decide) <|
    step_sent m ρ K c 13 (by decide) <|
    run_ret c h

/-! ## The buffers by blocks -/

omit [FloatOps F] in
/-- The accumulator whole is the device's own rows and, for each step, the rows it sends. -/
theorem acc_blocks (c : Dev nD) (f : Buf (Elt F) ((c : Thread nD τ).loc cc0_scratch0)) :
    (holds c cc0_scratch0 f : sProp 𝕄) = iprop((((c : Thread nD τ).loc cc0_scratch0) ↦[rowSet c]{fullShare} f) ∗ bigSep Finset.univ fun r => rowPts c r f) := by
  have hU : (Finset.univ : Finset (cc0_scratch0 : Ref sig .tc).ty.Idx) = (Finset.univ : Finset (Dev nD)).biUnion rowSet := by
    ext i
    refine ⟨fun _ => Finset.mem_biUnion.mpr ⟨⟨(i 0 : Nat) / 32, ?_⟩, Finset.mem_univ _, Finset.mem_filter.mpr ⟨Finset.mem_univ _, rfl⟩⟩, fun _ => Finset.mem_univ _⟩
    have h : (i 0 : Nat) < 512 := (i 0).isLt
    show (i 0 : Nat) / 32 < 16
    omega
  have hd : ∀ p ∈ (Finset.univ : Finset (Dev nD)), ∀ p' ∈ (Finset.univ : Finset (Dev nD)), p ≠ p' → Disjoint (rowSet p) (rowSet p') := fun p _ p' _ hne =>
    Finset.disjoint_left.mpr fun i hi hi' => hne (Fin.ext ((Finset.mem_filter.mp hi).2.symm.trans (Finset.mem_filter.mp hi').2))
  unfold holds
  rw [hU, pointsTo_biUnion _ _ hd, bigSep_univ_at _ c, others_dn, bigSep_image_of_injOn (fun r _ r' _ h => dn_inj c r r' h)]
  rfl

omit [FloatOps F] in
/-- The landing buffer whole is its slots. -/
theorem com_slots (c : Dev nD) (f : Buf (Elt F) ((c : Thread nD τ).loc cc0_scratch1)) :
    (holds c cc0_scratch1 f : sProp 𝕄) = bigSep Finset.univ fun r => slotPts c r f := by
  have hU : (Finset.univ : Finset (cc0_scratch1 : Ref sig .tc).ty.Idx) = (Finset.univ : Finset (Fin 15)).biUnion slotSet := by
    ext i
    exact ⟨fun _ => Finset.mem_biUnion.mpr ⟨i 0, Finset.mem_univ _, Finset.mem_filter.mpr ⟨Finset.mem_univ _, rfl⟩⟩, fun _ => Finset.mem_univ _⟩
  have hd : ∀ r ∈ (Finset.univ : Finset (Fin 15)), ∀ r' ∈ (Finset.univ : Finset (Fin 15)), r ≠ r' → Disjoint (slotSet r) (slotSet r') := fun r _ r' _ hne =>
    Finset.disjoint_left.mpr fun i hi hi' => hne (Fin.ext ((Finset.mem_filter.mp hi).2.symm.trans (Finset.mem_filter.mp hi').2))
  unfold holds
  rw [hU, pointsTo_biUnion _ _ hd]
  rfl

/-! ## The barrier's wait -/

/-- The duties of the transfer of step `r`, on both sides. -/
def sendTok (c : Dev nD) (r : Fin 15) : sProp 𝕄 := iprop(dutyTok ER (sendCell c r) 0 0 ∗ dutyTok ER (recvCell (dn r c) r) 0 0)

/-- What device `c` holds while it signals, to spend at the barrier's wait. -/
def barHold (c : Dev nD) : sProp 𝕄 :=
  iprop((atPos ER (barCell c) 0 ∅ 0 ∗ cred (tallyAt (barCell c) () 15)) ∗ bigSep Finset.univ (sendTok c))

/-- What it holds through the transfers, to spend at the waits. -/
def waitHold (c : Dev nD) : sProp 𝕄 :=
  iprop(bigSep Finset.univ (fun r => atPos ER (sendCell c r) 0 ∅ 0) ∗ bigSep Finset.univ (rWait c))

set_option maxRecDepth 20000 in
/-- The wait for the fifteen signals: every other device's slot is at hand, and with them everything the transfers need. -/
theorem step_barrier (c : Dev nD) {n : ℕ} (hn : n = 15) {X : sProp 𝕄} {α : Type} {Q : α → sProp 𝕄} {kont : PUnit → Prog (TpuEff nD τ sig (Elt F) Λ₀ .tc) α}
    (h : SendSt m ρ K c 0 iprop(semVal (barCell c) 0 ∗ (((c : Thread nD τ).loc cc0_scratch0) ↦[rowSet c]{fullShare} accAt m ρ c) ∗ X) ⊢ Run c (kont ⟨⟩) Q) :
    SigSt m ρ K c 15 iprop(barHold c ∗ holds c cc0_scratch0 (accAt m ρ c) ∗ X) ⊢ Run c (.op (.semWait barS n) kont) Q := by
  subst hn
  have hmay : records m ρ K ⊢ MayWait (c : Thread nD τ) (.reg barS) () (owedSend c 0) := (levels_at m ρ K).trans (mayWait_bar c)
  unfold SigSt owing barHold
  rw [owedSig_end, add_zero, acc_blocks]
  iintro ⟨#HR, ⟨%W, HO⟩, -, ⟨⟨Hat, Hc⟩, Htok⟩, ⟨Hown, Hrows⟩, HX⟩
  iapply (Rounds.wp_wait_rest_token 𝒱₀ ER (exRd m ρ) (c : Thread nD τ) none (κ := K (c, .inl ()))
      (wpE_semWait_eq 𝒱₀ (c : Thread nD τ) none Set.univ) (Set.mem_univ _) () (O := owedSend c 0) (W := W) (R := 0) (m := 0) (T := ∅)
      (by rw [expect_bar])) $$ [Hc HO Hat]
  · isplitr; · iapply (inv_at m ρ K (c, .inl ())); iexact HR
    isplitl [Hc]; · iexact Hc
    isplitl [HO]; · iexact HO
    isplitr
    · iapply hmay; iexact HR
    iexact Hat
  iintro ⟨HO, Hat, -, Hpay⟩
  ihave Hp := (Entails.of_eq (rest_bar m ρ c)) $$ Hpay
  imod (Rounds.cell_close ER (exRd m ρ) (Set.mem_univ (K (c, .inl ()))) (fun h => h) (R := 0 + 1) (duties_later m ρ (barCell c))) $$ [Hat] with Hz
  · isplitr; · iapply (inv_at m ρ K (c, .inl ())); iexact HR
    iexact Hat
  iapply h
  unfold SendSt owing
  rw [later_zero, before_zero, bigSep_empty]
  isplitr; · iexact HR
  isplitl [HO]; · iexists _; iexact HO
  isplitl [Hrows Hp Htok]
  · unfold sendRes
    iapply (Entails.of_eq (bigSep_sep' _ _ _).symm)
    isplitl [Hrows]; · iexact Hrows
    iapply (Entails.of_eq (bigSep_sep' _ _ _).symm)
    isplitl [Hp]; · iexact Hp
    unfold sendTok
    iexact Htok
  isplitr; · iempintro
  isplitl [Hz]; · iexact Hz
  isplitl [Hown] <;> iassumption

/-- The signals of steps 9 to 14, and the wait for the fifteen signals. -/
theorem run_part5 (c : Dev nD) {Q : _ → sProp 𝕄} {X : sProp 𝕄} (v2 w u : BitVec 32)
    (h : ∀ w, SendSt m ρ K c 0 iprop(semVal (barCell c) 0 ∗ (((c : Thread nD τ).loc cc0_scratch0) ↦[rowSet c]{fullShare} accAt m ρ c) ∗ X) ⊢ Q ⟨w, 16#32⟩) :
    SigSt m ρ K c 9 iprop(barHold c ∗ holds c cc0_scratch0 (accAt m ρ c) ∗ X)
      ⊢ Run c (k0_part5 xM hx rwM hrw idxM hidx ewM hew outM hout accM hacc comM hcom cc0_scratch2 cc0_scratch3 c v2 (SemArray.scalar (sig.barrier 0 rfl)) w u) Q := by
  rw [k0_part5_eq_skeleton]; unfold k0_part5_skel
  simp only [semSignalWord, semWaitWord, Prog.lift, Prog.bind_op, Prog.bind_ret, Prog.pure_eq_ret]
  exact step_signal m ρ K c ⟨k0_dev10 c, k0_dev10_lt c⟩ 9 (by decide) (Fin.ext (k0_dev10_eq c)) rfl <|
    step_signal m ρ K c ⟨k0_dev11 c, k0_dev11_lt c⟩ 10 (by decide) (Fin.ext (k0_dev11_eq c)) rfl <|
    step_signal m ρ K c ⟨k0_dev12 c, k0_dev12_lt c⟩ 11 (by decide) (Fin.ext (k0_dev12_eq c)) rfl <|
    step_signal m ρ K c ⟨k0_dev13 c, k0_dev13_lt c⟩ 12 (by decide) (Fin.ext (k0_dev13_eq c)) rfl <|
    step_signal m ρ K c ⟨k0_dev14 c, k0_dev14_lt c⟩ 13 (by decide) (Fin.ext (k0_dev14_eq c)) rfl <|
    step_signal m ρ K c ⟨k0_dev15 c, k0_dev15_lt c⟩ 14 (by decide) (Fin.ext (k0_dev15_eq c)) rfl <|
    step_barrier m ρ K c (by decide) <|
    run_ret c (h _)

/-! ## From the transfers to the waits -/

/-- The transfers all started, the waits can begin. -/
theorem sends_done (c : Dev nD) {X : sProp 𝕄} : SendSt m ρ K c 15 iprop(waitHold c ∗ X) ⊢ WaitSt m ρ K c 0 X := by
  unfold SendSt WaitSt waitHold
  rw [owedSend_end, later_end, before_end, later_zero, before_zero]
  simp only [bigSep_empty]
  iintro ⟨HR, HO, -, Hc, ⟨Hat, Hr⟩, HX⟩
  isplitl [HR]; · iexact HR
  isplitl [HO]; · iexact HO
  isplitl [Hc Hat]
  · isplitl [Hc Hat]
    · unfold sWait
      iapply (Entails.of_eq (bigSep_sep' _ _ _).symm)
      isplitl [Hat]; · iexact Hat
      unfold sentRes; iexact Hc
    · iempintro
  isplitl [Hr]
  · isplitl [Hr]; · iexact Hr
    iempintro
  iexact HX

/-- The last two transfers and the waits of step 0. -/
theorem run_part12 (c : Dev nD) {Q : _ → sProp 𝕄} {X : sProp 𝕄} (v2 w : BitVec 32) (h : ∀ w, WaitSt m ρ K c 1 X ⊢ Q w) :
    SendSt m ρ K c 13 iprop(waitHold c ∗ X) ⊢ Run c (k0_part12 xM hx rwM hrw idxM hidx ewM hew outM hout accM hacc comM hcom cc0_scratch2 cc0_scratch3 c v2 w) Q := by
  rw [k0_part12_eq_skeleton]; unfold k0_part12_skel
  simp only [Prog.lift, Prog.bind_op, Prog.bind_ret, Prog.pure_eq_ret]
  exact step_send m ρ K c ⟨k0_dev29 c, k0_dev29_lt c⟩ 13 (by decide) (Fin.ext (k0_dev29_eq c)) <|
    step_send m ρ K c ⟨k0_dev30 c, k0_dev30_lt c⟩ 14 (by decide) (Fin.ext (k0_dev30_eq c)) <|
    (sends_done m ρ K c).trans <|
    step_sent m ρ K c 0 (by decide) <|
    step_received m ρ K c 0 (by decide) <|
    run_ret c (h _)

end Cert.Exchange

end
-- ==== Proof.Body.lean ====
/-
# The body whole

The parts run one after another, and the body from what a device holds at launch to its result: the library's body
obligation.
-/
module

public import proofs.«01_k».proof.Proof.Phases

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Shape (idx3_ext)

variable {F : FTy → Type} [FloatOps F]

local notation "𝕄" => MT nD τ sig Unit (Elt F) ℕ UU ℕ

variable (m : (ℓ : Loc nD τ sig) → Buf (Elt F) ℓ) (ρ : Dev nD → PrngReg)

section Sequence

variable (K : Dev nD × Kd → ℕ)

/-- The frame of a phase may be regrouped. -/
theorem SigSt_mono (c : Dev nD) (k : ℕ) {X Y : sProp 𝕄} (h : X ⊢ Y) : SigSt m ρ K c k X ⊢ SigSt m ρ K c k Y := by
  unfold SigSt; exact sep_mono_right (sep_mono_right (sep_mono_right h))
theorem SendSt_mono (c : Dev nD) (k : ℕ) {X Y : sProp 𝕄} (h : X ⊢ Y) : SendSt m ρ K c k X ⊢ SendSt m ρ K c k Y := by
  unfold SendSt; exact sep_mono_right (sep_mono_right (sep_mono_right (sep_mono_right h)))

/-- The inputs can be taken out of the signals' frame, and put back. -/
theorem SigSt_ins (c : Dev nD) (k : ℕ) (X : sProp 𝕄) : SigSt m ρ K c k iprop(Ins m ρ c ∗ X) ⊢ iprop(Ins m ρ c ∗ SigSt m ρ K c k X) := by
  unfold SigSt
  iintro ⟨HR, HO, Hs, HI, HX⟩
  isplitl [HI]; · iexact HI
  isplitl [HR]; · iexact HR
  isplitl [HO]; · iexact HO
  isplitl [Hs] <;> iassumption
theorem ins_SigSt (c : Dev nD) (k : ℕ) (X : sProp 𝕄) : iprop(Ins m ρ c ∗ SigSt m ρ K c k X) ⊢ SigSt m ρ K c k iprop(Ins m ρ c ∗ X) := by
  unfold SigSt
  iintro ⟨HI, HR, HO, Hs, HX⟩
  isplitl [HR]; · iexact HR
  isplitl [HO]; · iexact HO
  isplitl [Hs]; · iexact Hs
  isplitl [HI] <;> iassumption

/-- The parts in order: from the signals to come to the waits done, with the inputs and any frame `Z` kept. -/
theorem run_part19 (c : Dev nD) {Q : _ → sProp 𝕄} {Z : sProp 𝕄}
    (h : WaitSt m ρ K c 15 iprop(semVal (barCell c) 0 ∗ (((c : Thread nD τ).loc cc0_scratch0) ↦[rowSet c]{fullShare} accAt m ρ c) ∗ Ins m ρ c ∗ Z) ⊢ Q ⟨c, pos c⟩) :
    SigSt m ρ K c 0 iprop(Ins m ρ c ∗ (∃ f, holds c cc0_scratch0 f) ∗ barHold c ∗ waitHold c ∗ Z) ⊢ Run c (k0_part19 xM hx rwM hrw idxM hidx ewM hew outM hout accM hacc comM hcom cc0_scratch2 cc0_scratch3) Q := by
  rw [k0_part19_eq_skeleton]; unfold k0_part19_skel
  refine (SigSt_ins m ρ K c 0 _).trans (run_bind c (run_part1 m ρ c ?_))
  refine run_bind c (run_part2 m ρ c _ _ _ _ _ _ ?_)
  refine (ins_SigSt m ρ K c 0 _).trans (run_bind c (run_part3 m ρ K c _ _ _ _ _ _ fun w => ?_))
  refine run_bind c (run_part4 m ρ K c _ _ _ fun w => ?_)
  refine (SigSt_mono m ρ K c 9 (Y := iprop(barHold c ∗ holds c cc0_scratch0 (accAt m ρ c) ∗ waitHold c ∗ Ins m ρ c ∗ Z)) ?_).trans
    (run_bind c (run_part5 m ρ K c _ _ _ fun w => ?_))
  · iintro ⟨HI, Hacc, Hb, Hw, HZ⟩
    isplitl [Hb]; · iexact Hb
    isplitl [Hacc]; · iexact Hacc
    isplitl [Hw]; · iexact Hw
    isplitl [HI] <;> iassumption
  refine run_bind c (run_part6 m ρ K c _ _ _ fun w => ?_)
  refine run_bind c (run_part7 m ρ K c _ _ fun w => ?_)
  refine run_bind c (run_part8 m ρ K c _ fun w => ?_)
  refine run_bind c (run_part9 m ρ K c _ _ fun w => ?_)
  refine run_bind c (run_part10 m ρ K c _ _ fun w => ?_)
  refine run_bind c (run_part11 m ρ K c _ fun w => ?_)
  refine (SendSt_mono m ρ K c 13 (Y := iprop(waitHold c ∗ semVal (barCell c) 0
    ∗ (((c : Thread nD τ).loc cc0_scratch0) ↦[rowSet c]{fullShare} accAt m ρ c) ∗ Ins m ρ c ∗ Z)) ?_).trans (run_bind c (run_part12 m ρ K c _ _ fun w => ?_))
  · iintro ⟨Hz, Hown, Hw, HI, HZ⟩
    isplitl [Hw]; · iexact Hw
    isplitl [Hz]; · iexact Hz
    isplitl [Hown]; · iexact Hown
    isplitl [HI] <;> iassumption
  refine run_bind c (run_part13 m ρ K c _ _ (run_bind c (run_part14 m ρ K c _ _ (run_bind c (run_part15 m ρ K c _ _ (run_bind c (run_part16 m ρ K c _ _
    (run_bind c (run_part17 m ρ K c _ _ (run_bind c (run_part18 m ρ K c _ _ ?_)))))))))))
  simp only [Prog.lift, Prog.bind_op, Prog.bind_ret, Prog.pure_eq_ret]
  exact step_received m ρ K c 13 (by decide) <| step_sent m ρ K c 14 (by decide) <| step_received m ρ K c 14 (by decide) <| run_ret c h

/-- The exchange done, both scratch buffers are whole again: the accumulator, and the landing buffer with every slot filled. -/
theorem waits_done (c : Dev nD) (X : sProp 𝕄) :
    WaitSt m ρ K c 15 iprop(semVal (barCell c) 0 ∗ (((c : Thread nD τ).loc cc0_scratch0) ↦[rowSet c]{fullShare} accAt m ρ c) ∗ X)
      ⊢ iprop(owing c 0 ∗ holds c cc0_scratch0 (accAt m ρ c) ∗ holds c cc0_scratch1 (comAt m ρ c)
          ∗ (semVal (barCell c) 0 ∗ bigSep Finset.univ (fun r => semVal (sendCell c r) 0) ∗ bigSep Finset.univ fun r => semVal (recvCell c r) 0) ∗ X) := by
  unfold WaitSt
  rw [later_end, before_end, acc_blocks, com_slots]
  simp only [bigSep_empty]
  unfold sDone rDone
  rw [bigSep_sep', bigSep_sep']
  iintro ⟨-, HO, ⟨-, Hrows, Hs⟩, ⟨-, Hslots, Hr⟩, Hz, Hown, HX⟩
  isplitl [HO]; · iexact HO
  isplitl [Hown Hrows]; · isplitl [Hown] <;> iassumption
  isplitl [Hslots]; · iexact Hslots
  isplitr [HX]
  · isplitl [Hz]; · iexact Hz
    isplitl [Hs] <;> iassumption
  iexact HX

/-- The body, from the signals to come to its result in the output's staging buffer. -/
theorem run_body (c : Dev nD) {Q : PUnit → sProp 𝕄}
    (h : iprop(owing c 0 ∗ holds c cc0_scratch0 (accAt m ρ c) ∗ holds c cc0_scratch1 (comAt m ρ c)
          ∗ (semVal (barCell c) 0 ∗ bigSep Finset.univ (fun r => semVal (sendCell c r) 0) ∗ bigSep Finset.univ fun r => semVal (recvCell c r) 0)
          ∗ Ins m ρ c ∗ holds c cc0_stg4_0 (outAt m ρ c)) ⊢ Q ⟨⟩) :
    SigSt m ρ K c 0 iprop(Ins m ρ c ∗ (∃ f, holds c cc0_scratch0 f) ∗ barHold c ∗ waitHold c ∗ ∃ f, holds c cc0_stg4_0 f) ⊢ Run c (cc0_body xM hx rwM hrw idxM hidx ewM hew outM hout accM hacc comM hcom cc0_scratch2 cc0_scratch3) Q := by
  rw [cc0_body_eq_skeleton]; unfold cc0_body_skel
  refine run_bind c (run_part19 m ρ K c ?_)
  simp only [Prog.lift, Prog.bind_op, Prog.bind_ret, Prog.pure_eq_ret]
  refine (waits_done m ρ K c _).trans ?_
  iintro ⟨HO, Hacc, Hcom, Hz, HI, ⟨%f, Hout⟩⟩
  iapply (wp_load 𝒱₀ (c : Thread nD τ) none Set.univ (m := accM) (Finset.subset_univ _)) $$ Hacc; iintro Hacc
  iapply (wp_load 𝒱₀ (c : Thread nD τ) none Set.univ (m := comM) (Finset.subset_univ _)) $$ Hcom; iintro Hcom
  rw [show ∀ f, comM.view.readAt (Elt F) (Rect.unit (s := S15x32x512) ![0, 0, 0] S15x32x512.size inb_S15x32x512_S15x32x512_0_0_0).toLoadRect f = f from
    Memref.readAt_unit_zero (Elt F) cc0_scratch1 zero3 _]
  iapply (wp_load 𝒱₀ (c : Thread nD τ) none Set.univ (m := outM) (Finset.subset_univ _)) $$ Hout; iintro Hout
  iapply (wp_store 𝒱₀ (c : Thread nD τ) none Set.univ (m := outM) (r := Rect.unit (s := S32x512) ![0, 0] S32x512.size inb_S32x512_S32x512_0_0)
    (Mk := Finset.univ) (Finset.subset_univ _)) $$ Hout; iintro Hout
  rw [show ∀ w, ((outM : Memref sig .tc .vmem S32x512 .f32).access (Rect.unit (s := S32x512) ![0, 0] S32x512.size inb_S32x512_S32x512_0_0)
    : View sig .tc _ _ _).write (Elt F) f w Finset.univ = w from fun w => Memref.write_access_unit_zero_univ (Elt F) cc0_stg4_0 zero2 _ f w]
  iapply (run_ret c h)
  isplitl [HO]; · iexact HO
  isplitl [Hacc]; · iexact Hacc
  isplitl [Hcom]; · iexact Hcom
  isplitl [Hz]; · iexact Hz
  isplitl [HI]; · iexact HI
  iexact Hout

end Sequence

end Cert.Exchange

end
-- ==== Proof.Launch.lean ====
/-
# From the launch to the run

What a device holds when its body starts and when it ends, the library's body obligation, and the launch: the cells'
invariants are made, the duties' tokens are dealt to the devices that pay them, and the credits each device may wait for
are what the others owe it. The run follows: every device ends with its result in its output array, its inputs as they
were, and every counter at zero.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Shape (idx3_ext)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat BodyObligation)

/-! ## Before and after the body -/

/-- The part of the records which the launch allocates: all but the levels. -/
def allocated (K : Dev nD × Kd → ℕ) : sProp 𝕄 :=
  iprop((bigSep Finset.univ fun ck => cellInv ER (exRd m ρ) (K ck) (kcell ck)) ∗ bigSep Finset.univ fun ck => (reached ER (kcell ck) 0 : sProp 𝕄))

instance allocated_persistent (K : Dev nD × Kd → ℕ) : BI.Persistent (allocated m ρ K) := by unfold allocated; infer_instance

/-- The tokens of the duties device `c` pays: the barriers it signals, its transfers' two ends. -/
def paying (c : Dev nD) : sProp 𝕄 :=
  iprop((bigSep Finset.univ fun r : Fin 15 => dutyTok ER (barCell (up r c)) 0 r) ∗ bigSep Finset.univ fun r : Fin 15 => sendTok c r)

/-- What device `c` alone holds of the exchange: its positions at its own cells, and the tokens it pays with. -/
def mine (c : Dev nD) : sProp 𝕄 :=
  iprop((bigSep Finset.univ fun k : Kd => atPos ER (kcell (c, k)) 0 ∅ 0) ∗ paying c)

/-- What the devices' common step of the launch makes for device `c`. -/
def G' (c : Dev nD) : sProp 𝕄 := iprop(∃ K, allocated m ρ K ∗ mine c)

/-- With the credits it may wait for and the levels. -/
def start (c : Dev nD) : sProp 𝕄 :=
  iprop(G' m ρ c ∗ (cred (tallyAt (barCell c) () 15) ∗ bigSep Finset.univ fun r : Fin 15 => cred (tallyAt (recvCell c r) () N)) ∗ levAts L lv)

/-- With the scratch buffers, before the body; and what the body leaves. -/
def Φ₀ (c : Dev nD) : sProp 𝕄 := iprop(start m ρ c ∗ (∃ f, holds c cc0_scratch0 f) ∗ ∃ f, holds c cc0_scratch1 f)
def Φ₁ (c : Dev nD) : sProp 𝕄 :=
  iprop((semVal (barCell c) 0 ∗ bigSep Finset.univ (fun r => semVal (sendCell c r) 0) ∗ bigSep Finset.univ fun r => semVal (recvCell c r) 0)
    ∗ holds c cc0_scratch0 (accAt m ρ c) ∗ holds c cc0_scratch1 (comAt m ρ c))

/-- The launch's data for device `c`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => rwAt m ρ c
    | ⟨2, _⟩ => idxAt m ρ c
    | ⟨3, _⟩ => ewAt m ρ c
    | ⟨4, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetched : ∀ w : Fin cfg0.W, w ≠ (4 : Fin 5) → (cfg0.win w).fetch t0_0 = true := by decide

omit [FloatOps F] in
/-- A staging buffer as the library describes it: holding some contents, which are the ones named. -/
theorem owns_staged (c : Dev nD) (b : Ref sig .tc) (X : b.ty.Contents (Elt F)) :
    (owns (Ix := Unit) (Name := ℕ) (U := UU) (Lvl := ℕ) (c : Thread nD τ) (Memref.whole b) fullShare X : sProp 𝕄) = iprop(∃ f, ⌜f = X⌝ ∗ holds c b f) := by
  unfold owns; simp only [Memref.view_whole, View.read_whole, View.set_whole]

/-- Such a buffer simply holds the contents named. -/
theorem staged_elim (c : Dev nD) (b : Ref sig .tc) (X : b.ty.Contents (Elt F)) : iprop(∃ f, ⌜f = X⌝ ∗ holds c b f) ⊢ holds c b X := by
  iintro ⟨%f, %hf, H⟩; rw [← hf]; iexact H
theorem staged_intro (c : Dev nD) (b : Ref sig .tc) (X : b.ty.Contents (Elt F)) : holds c b X ⊢ iprop(∃ f, ⌜f = X⌝ ∗ holds c b f) := by
  iintro H; iexists X; isplitr; · (ipureintro; rfl)
  iexact H

/-- At launch each input's staging buffer holds the input, the output's anything. -/
def bodyPre (c : Dev nD) : sProp 𝕄 :=
  iprop(Φ₀ m ρ c ∗ (dats m ρ 0 c).owesAt () t0_0.castSucc
    ∗ (∃ d, ∃ f, ⌜f = (dats m ρ 0 c).before (0 : Fin 5) t0_0 d⌝ ∗ holds c cc0_stg0_0 f)
    ∗ (∃ d, ∃ f, ⌜f = (dats m ρ 0 c).before (1 : Fin 5) t0_0 d⌝ ∗ holds c cc0_stg1_0 f)
    ∗ (∃ d, ∃ f, ⌜f = (dats m ρ 0 c).before (2 : Fin 5) t0_0 d⌝ ∗ holds c cc0_stg2_0 f)
    ∗ (∃ d, ∃ f, ⌜f = (dats m ρ 0 c).before (3 : Fin 5) t0_0 d⌝ ∗ holds c cc0_stg3_0 f)
    ∗ (∃ d, ∃ f, ⌜f = (dats m ρ 0 c).before (4 : Fin 5) t0_0 d⌝ ∗ holds c cc0_stg4_0 f))
def bodyPost (c : Dev nD) : sProp 𝕄 :=
  iprop(Φ₁ m ρ c ∗ (dats m ρ 0 c).owesAt () t0_0.succ
    ∗ (∃ f, ⌜f = xAt m ρ c⌝ ∗ holds c cc0_stg0_0 f) ∗ (∃ f, ⌜f = rwAt m ρ c⌝ ∗ holds c cc0_stg1_0 f)
    ∗ (∃ f, ⌜f = idxAt m ρ c⌝ ∗ holds c cc0_stg2_0 f) ∗ (∃ f, ⌜f = ewAt m ρ c⌝ ∗ holds c cc0_stg3_0 f)
    ∗ (∃ f, ⌜f = outAt m ρ c⌝ ∗ holds c cc0_stg4_0 f))

/-- An input's staging buffer before the body. -/
theorem before_in (c : Dev nD) (b : Ref sig .tc) (X : b.ty.Contents (Elt F)) {D : Type} (Y : D → b.ty.Contents (Elt F)) (h : ∀ d, Y d = X) :
    iprop(∃ d, ∃ f, ⌜f = Y d⌝ ∗ holds c b f) ⊢ holds c b X := by
  iintro ⟨%d, %f, %hf, H⟩; rw [← h d, ← hf]; iexact H

omit [FloatOps F] in
theorem bigSep_kinds (Φ : Kd → sProp 𝕄) :
    bigSep Finset.univ Φ = iprop(Φ (.inl ()) ∗ bigSep Finset.univ (fun r : Fin 15 => Φ (.inr (false, r))) ∗ bigSep Finset.univ fun r : Fin 15 => Φ (.inr (true, r))) := by
  rw [bigSep_univ_sum, bigSep_univ_prod, bigSep_univ_eq_bigSepL [false, true] (by decide) (by decide), bigSep_univ_eq_bigSepL [()] (by decide) (by decide)]
  rfl

/-- The holdings at launch are those before the first signal. -/
theorem launch_state (c : Dev nD) (Z : sProp 𝕄) :
    iprop(Φ₀ m ρ c ∗ owing c (O₀ c) ∗ Ins m ρ c ∗ Z)
      ⊢ iprop(∃ K, SigSt m ρ K c 0 iprop(Ins m ρ c ∗ (∃ f, holds c cc0_scratch0 f) ∗ barHold c ∗ waitHold c ∗ Z)) := by
  unfold Φ₀ start G' mine paying SigSt O₀
  rw [bigSep_kinds, later_zero]
  iintro ⟨⟨⟨⟨%K, #HK, ⟨Hb, Hs, Hr⟩, Hsig, Htok⟩, ⟨Hcb, Hcr⟩, #HL⟩, Hacc, ⟨%f, Hcom⟩⟩, HO, HI, HZ⟩
  ihave Hcom := (Entails.of_eq (com_slots c f)) $$ Hcom
  iexists K
  isplitr
  · unfold records allocated
    icases HK with ⟨#H1, #H2⟩
    isplitr; · iexact H1
    isplitr; · iexact H2
    iexact HL
  isplitl [HO]; · iexact HO
  isplitl [Hsig Hcom]
  · iapply ((Entails.of_eq (bigSep_sep' Finset.univ (fun r : Fin 15 => (dutyTok ER (barCell (up r c)) 0 r : sProp 𝕄)) fun r => slotPts c r f).symm).trans
      (bigSep_mono fun r _ => show _ ⊢ sigRes c r from by
        unfold sigRes; iintro ⟨H1, H2⟩
        isplitl [H1]; · iexact H1
        iexists f; iexact H2))
    isplitl [Hsig] <;> iassumption
  isplitl [HI]; · iexact HI
  isplitl [Hacc]; · iexact Hacc
  isplitl [Hb Hcb Htok]
  · unfold barHold
    isplitl [Hb Hcb]
    · isplitl [Hb] <;> iassumption
    iexact Htok
  isplitl [Hs Hr Hcr]
  · unfold waitHold
    isplitl [Hs]; · iexact Hs
    iapply (Entails.of_eq (bigSep_sep' Finset.univ (fun r : Fin 15 => (atPos ER (recvCell c r) 0 ∅ 0 : sProp 𝕄)) fun r => cred (tallyAt (recvCell c r) () N)).symm)
    isplitl [Hr]; · iexact Hr
    iexact Hcr
  iexact HZ

/-- The body takes what the launch gives it to what it must leave. -/
theorem body_runs (c : Dev nD) : bodyPre m ρ c ⊢ Run c (cc0_body xM hx rwM hrw idxM hidx ewM hew outM hout accM hacc comM hcom cc0_scratch2 cc0_scratch3) fun _ => bodyPost m ρ c := by
  unfold bodyPre
  iintro ⟨HΦ, Ho, Hx, Hrw, Hidx, Hew, ⟨%d, %f, -, Hout⟩⟩
  ihave Hx := (before_in c cc0_stg0_0 (xAt m ρ c) _ fun d => by unfold Dat.before; rw [if_pos (fetched _ (by decide))]; rfl) $$ Hx
  ihave Hrw := (before_in c cc0_stg1_0 (rwAt m ρ c) _ fun d => by unfold Dat.before; rw [if_pos (fetched _ (by decide))]; rfl) $$ Hrw
  ihave Hidx := (before_in c cc0_stg2_0 (idxAt m ρ c) _ fun d => by unfold Dat.before; rw [if_pos (fetched _ (by decide))]; rfl) $$ Hidx
  ihave Hew := (before_in c cc0_stg3_0 (ewAt m ρ c) _ fun d => by unfold Dat.before; rw [if_pos (fetched _ (by decide))]; rfl) $$ Hew
  unfold Dat.owesAt Pipeline.owesWithin
  icases Ho with ⟨%W, %hW, HO⟩
  ihave H := (launch_state m ρ c iprop(∃ f, holds c cc0_stg4_0 f)) $$ [HΦ HO Hx Hrw Hidx Hew Hout]
  · isplitl [HΦ]; · iexact HΦ
    isplitl [HO]; · unfold owing; iexists W; iexact HO
    isplitr [Hout]
    · unfold Ins
      isplitl [Hx]; · iexact Hx
      isplitl [Hrw]; · iexact Hrw
      isplitl [Hidx] <;> iassumption
    iexists f; iexact Hout
  icases H with ⟨%K, H⟩
  iapply (run_body m ρ K c (Q := fun _ => bodyPost m ρ c) ?_) $$ H
  unfold bodyPost Φ₁ Dat.owesAt Pipeline.owesWithin owing Ins
  rw [show (dats m ρ 0 c).owed t0_0.succ = 0 from rfl]
  iintro ⟨⟨%W, HO⟩, Hacc, Hcom, Hz, ⟨Hx, Hrw, Hidx, Hew⟩, Hout⟩
  isplitl [Hacc Hcom Hz]
  · isplitl [Hz]; · iexact Hz
    isplitl [Hacc] <;> iassumption
  isplitl [HO]
  · iexists W
    isplitr; · ipureintro; exact fun _ _ => Or.inl trivial
    iexact HO
  isplitl [Hx]; · iapply (staged_intro c cc0_stg0_0 _); iexact Hx
  isplitl [Hrw]; · iapply (staged_intro c cc0_stg1_0 _); iexact Hrw
  isplitl [Hidx]; · iapply (staged_intro c cc0_stg2_0 _); iexact Hidx
  isplitl [Hew]; · iapply (staged_intro c cc0_stg3_0 _); iexact Hew
  iapply (staged_intro c cc0_stg4_0 _); iexact Hout

set_option maxRecDepth 8000 in
/-- The library's body obligation on device `c`. -/
theorem body_obligation (c : Dev nD) : BodyObligation (dats (F := F) m ρ 0 c) (defs₀ (F := F)) 𝒱₀ () Set.univ := fun t => by
  rw [fin_N0 t, bigSep_W0, bigSep_W0]
  simp only [owns_staged]
  exact body_runs m ρ c

/-! ## The launch -/

theorem ownSemFacts : Pipeline.OwnSemFacts cfg0.spec osem := by decide

theorem share_eq (c : Dev nD) (w : Fin cfg0.W) : (dats m ρ 0 c).share w = fullShare := by unfold Dat.share; split <;> rfl

/-- The exchange's cells, and its duties: fifteen at a device's barrier, one at each of its other cells. -/
def exCells : Finset (GSem nD τ sig) := Finset.univ.map ⟨kcell, kcell_inj⟩
abbrev dutyAt (cj : Dev nD × (Fin 15 ⊕ (Bool × Fin 15))) : GSem nD τ sig × ℕ × Fin 15 := match cj.2 with
  | .inl r => (barCell cj.1, 0, r)
  | .inr k => (kcell (cj.1, .inr k), 0, 0)
theorem dutyAt_inj : Function.Injective dutyAt := by
  rintro ⟨c, r | k⟩ ⟨c', r' | k'⟩ h
  · have h1 : c = c' := congrArg (fun x : GSem nD τ sig × ℕ × Fin 15 => x.1.1.1) h
    have h2 : r = r' := congrArg (fun x : GSem nD τ sig × ℕ × Fin 15 => x.2.2) h
    rw [h1, h2]
  · cases (congrArg (fun x : GSem nD τ sig × ℕ × Fin 15 => x.1.2) h : SemLoc.reg barS = osem k')
  · cases (congrArg (fun x : GSem nD τ sig × ℕ × Fin 15 => x.1.2) h : osem k = SemLoc.reg barS)
  · have h1 : c = c' := congrArg (fun x : GSem nD τ sig × ℕ × Fin 15 => x.1.1.1) h
    have h2 : osem k = osem k' := congrArg (fun x : GSem nD τ sig × ℕ × Fin 15 => x.1.2) h
    rw [h1, osem_inj h2]
def exDuties : Finset (GSem nD τ sig × ℕ × Fin 15) := Finset.univ.map ⟨dutyAt, dutyAt_inj⟩

/-- The launch's element: the pipeline's part and the exchange's. -/
def u₀ : UU := (initOf (Pipeline.cells cfgs cellOf_inj) (Pipeline.launchToks cfgs cellOf_inj), initOf exCells exDuties)

/-- The tokens of the duties at device `c`'s own cells. -/
def minted (c : Dev nD) : sProp 𝕄 :=
  iprop((bigSep Finset.univ fun r : Fin 15 => dutyTok ER (barCell c) 0 r) ∗ (bigSep Finset.univ fun r : Fin 15 => dutyTok ER (sendCell c r) 0 0)
    ∗ bigSep Finset.univ fun r : Fin 15 => dutyTok ER (recvCell c r) 0 0)

/-- What the launch's element gives device `c`. -/
def G (c : Dev nD) : sProp 𝕄 :=
  iprop((bigSep Finset.univ fun k : Kd => roundState ER (exRd m ρ) (kcell (c, k)) 0)
    ∗ ((bigSep Finset.univ fun k : Kd => atPos ER (kcell (c, k)) 0 ∅ 0) ∗ bigSep Finset.univ fun k : Kd => reached ER (kcell (c, k)) 0) ∗ minted c)

theorem fund : BI.own (ER (initOf exCells exDuties)) ⊢ (|==> bigSep Finset.univ (G m ρ) : sProp 𝕄) := by
  have hX (Φ : GSem nD τ sig → sProp 𝕄) : bigSep exCells Φ = bigSep Finset.univ fun c : Dev nD => bigSep Finset.univ fun k : Kd => Φ (kcell (c, k)) := by
    unfold exCells; rw [bigSep_map, bigSep_univ_prod]; rfl
  have hT : bigSep exDuties (fun x => (dutyTok ER x.1 x.2.1 x.2.2 : sProp 𝕄)) = bigSep Finset.univ fun c : Dev nD => minted c := by
    unfold exDuties; rw [bigSep_map, bigSep_univ_prod]
    refine bigSep_congr fun c _ => ?_
    unfold minted
    rw [bigSep_univ_sum, bigSep_univ_prod, bigSep_univ_eq_bigSepL [false, true] (by decide) (by decide)]; rfl
  iintro HX
  imod (Rounds.fund ER (exRd m ρ) exCells exDuties) $$ HX with ⟨Hst, Hr, Hat, Htok⟩
  imodintro
  ihave Hst := (Entails.of_eq (hX fun g => roundState ER (exRd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; rw [bigSep_sep', bigSep_sep', bigSep_sep']
  isplitl [Hst]; · iexact Hst
  isplitl [Hat Hr]
  · isplitl [Hat]; · iexact Hat
    iexact Hr
  iexact Htok

omit [FloatOps F] in
/-- The kernel's own semaphores are the send and receive ones; the runtime's barrier is the one beside them. -/
theorem ownSems0_eq (c : Dev nD) : (Pipeline.ownSems0 (Ix := Unit) (Name := ℕ) (U := UU) (Lvl := ℕ) (Val := Elt F) (τ := τ) osem c : sProp 𝕄)
    = iprop(bigSep Finset.univ (fun r => semVal (sendCell c r) 0) ∗ bigSep Finset.univ fun r => semVal (recvCell c r) 0) := by
  unfold Pipeline.ownSems0
  rw [bigSep_univ_prod, bigSep_univ_eq_bigSepL [false, true] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kd => semVal (kcell (c, k)) 0 : sProp 𝕄) := by
  rw [ownSems0_eq, unscopedSems0_eq, bigSep_kinds]
  iintro ⟨⟨HS, HV⟩, HB⟩
  isplitl [HB]; · iexact HB
  isplitl [HS]; · iexact HS
  iexact HV

/-- One device's cells get their invariants. -/
theorem device_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (exRd m ρ) κ (kcell (c, k))))
          ∗ ((bigSep Finset.univ fun k : Kd => atPos ER (kcell (c, k)) 0 ∅ 0) ∗ bigSep Finset.univ fun k : Kd => reached ER (kcell (c, k)) 0) ∗ minted c) := by
  unfold G
  iintro ⟨Hos, Hus, Hst, Hat, Htok⟩
  ihave Hv := (sems0_eq (F := F) c) $$ [Hos Hus]
  · isplitl [Hos] <;> iassumption
  imod (show iprop((bigSep Finset.univ fun k : Kd => semVal (kcell (c, k)) 0) ∗ bigSep Finset.univ fun k : Kd => roundState ER (exRd m ρ) (kcell (c, k)) 0)
      ⊢ (|={Set.univ}=> bigSep Finset.univ fun k => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat] <;> iassumption

omit [FloatOps F] in
/-- Tokens named by devices and steps, dealt along a shift of the devices for each step. -/
theorem dealt (e : Fin 15 → Dev nD ≃ Dev nD) (Φ : Dev nD → Fin 15 → sProp 𝕄) :
    (bigSep Finset.univ fun c => bigSep Finset.univ (Φ c)) = bigSep Finset.univ fun c => bigSep Finset.univ fun r => Φ (e r c) r := by
  rw [bigSep_univ_comm, bigSep_univ_comm (fun c r => Φ (e r c) r)]
  exact bigSep_congr fun r _ => bigSep_univ_equiv (e r) fun c => Φ c r

omit [FloatOps F] in
/-- Every token ends with the device that pays the duty. -/
theorem deal : (bigSep Finset.univ fun c : Dev nD => (minted c : sProp 𝕄)) ⊢ bigSep Finset.univ fun c : Dev nD => paying c := by
  have hs : ∀ c : Dev nD, (bigSep Finset.univ fun r : Fin 15 => (sendTok c r : sProp 𝕄))
      = iprop((bigSep Finset.univ fun r : Fin 15 => dutyTok ER (sendCell c r) 0 0) ∗ bigSep Finset.univ fun r : Fin 15 => dutyTok ER (recvCell (dn r c) r) 0 0) := fun c => by
    unfold sendTok; rw [bigSep_sep']
  unfold minted paying
  rw [bigSep_sep', bigSep_sep', bigSep_sep', bigSep_congr fun c _ => hs c, bigSep_sep', dealt shift, dealt (fun r => (shift r).symm) fun c r => dutyTok ER (recvCell c r) 0 0]
  exact BI.Entails.refl _

/-- The invariants become every device's, each device keeping its positions and the tokens it pays with. -/
theorem regroup :
    (bigSep Finset.univ fun c : Dev nD => iprop((bigSep Finset.univ fun k => iprop(∃ κ : ℕ, cellInv ER (exRd m ρ) κ (kcell (c, k))))
          ∗ ((bigSep Finset.univ fun k : Kd => atPos ER (kcell (c, k)) 0 ∅ 0) ∗ bigSep Finset.univ fun k : Kd => reached ER (kcell (c, k)) 0) ∗ minted c) : sProp 𝕄)
      ⊢ bigSep Finset.univ (G' m ρ) := by
  rw [bigSep_sep', bigSep_sep', bigSep_sep', ← bigSep_univ_prod (fun ck : Dev nD × Kd => iprop(∃ κ : ℕ, cellInv ER (exRd m ρ) κ (kcell ck))),
    ← bigSep_univ_prod (fun ck : Dev nD × Kd => (reached ER (kcell ck) 0 : sProp 𝕄))]
  iintro ⟨HI, ⟨Hat, #HR⟩, Htok⟩
  ihave HK := (BI.bigSep_exists_pi Finset.univ (fun (ck : Dev nD × Kd) (κ : ℕ) => (cellInv ER (exRd m ρ) κ (kcell ck) : sProp 𝕄))) $$ HI
  icases HK with ⟨%K, #HI⟩
  ihave Htk := (deal (F := F)) $$ Htok
  iapply (BI.bigSep_with_persistent (R := allocated m ρ K) (Φ := mine) fun c _ => show _ ⊢ G' m ρ c from by
    unfold G'; iintro H; iexists K; iexact H)
  isplitr
  · unfold allocated; isplitl; · iexact HI
    iexact HR
  · unfold mine; rw [bigSep_sep']
    isplitl [Hat] <;> iassumption

/-- All devices' semaphores and shares of the launch's element, to what each starts from. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => device_alloc m ρ c).trans (bigSep_fupd _ _)).trans (BI.fupd_mono (regroup m ρ))

/-! ### The credits -/

theorem bar_ne_dma (q : DmaSem sig) : (SemLoc.reg barS : SemLoc sig) ≠ .dma q := nofun

theorem owed_bar (c : Dev nD) : ∑ d : Dev nD, O₀ d (barCell c) () = 15 := by
  have h : ∀ d : Dev nD, O₀ d (barCell c) () = ∑ r : Fin 15, if d = dn r c then 1 else 0 := fun d => by
    unfold O₀
    rw [Pi.add_apply, Finsupp.add_apply, owedSend_apply, owedSig_apply, later_zero,
      Finset.sum_eq_zero fun r _ => if_neg fun h => bar_ne_dma (recvS r) (congrArg Prod.snd h.1), Nat.zero_add]
    refine Finset.sum_congr rfl fun r _ => if_congr ⟨fun h => ?_, fun h => ?_⟩ rfl rfl
    · have hc : c = up r d := congrArg (fun g : GSem nD τ sig => g.1.1) h.1
      rw [hc, dn_up]
    · rw [h, up_dn]; exact ⟨rfl, rfl⟩
  rw [Finset.sum_congr rfl fun d _ => h d, Finset.sum_comm, Finset.sum_congr rfl fun r _ => (Finset.sum_ite_eq' Finset.univ (dn r c) fun _ => 1).trans (if_pos (Finset.mem_univ _))]
  rfl

theorem owed_recv (c : Dev nD) (r : Fin 15) : ∑ d : Dev nD, O₀ d (recvCell c r) () = N := by
  have h : ∀ d : Dev nD, O₀ d (recvCell c r) () = if d = up r c then N else 0 := fun d => by
    unfold O₀
    rw [Pi.add_apply, Finsupp.add_apply, owedSend_apply, owedSig_apply, later_zero,
      Finset.sum_eq_zero (s := Finset.univ) (f := fun r' : Fin 15 => if recvCell c r = barCell (up r' d) ∧ () = () then 1 else 0)
        (fun r' _ => if_neg fun h => bar_ne_dma (recvS r) (congrArg Prod.snd h.1).symm), Nat.add_zero,
      Finset.sum_eq_single_of_mem r (Finset.mem_univ _) fun r' _ hr => if_neg fun h => hr (by
        have := csem_inj (a₁ := .inr (true, r)) (a₂ := .inr (true, r')) (congrArg Prod.snd h.1)
        exact (congrArg Prod.snd (Sum.inr.inj this)).symm)]
    refine if_congr ⟨fun h => ?_, fun h => ?_⟩ rfl rfl
    · have hc : c = dn r d := congrArg (fun g : GSem nD τ sig => g.1.1) h.1
      rw [hc, up_dn]
    · rw [h, dn_up]; exact ⟨rfl, rfl⟩
  rw [Finset.sum_congr rfl fun d _ => h d, Finset.sum_ite_eq' Finset.univ (up r c) fun _ => N, if_pos (Finset.mem_univ _)]

/-- What the launch credits a cell with is what the devices owe it in all. -/
theorem launch_credit (g : GSem nD τ sig) (c : Dev nD) (sm : SemLoc sig) (hg : g = ((c : Thread nD τ), sm)) (n : ℕ) (h : ∑ d : Dev nD, O₀ d g () = n) :
    tallyOn g (launchCredit (Pipeline.owing O₀) 0 g) = (tallyAt g () n : CellTallies nD τ sig Unit) := by
  subst hg
  unfold tallyAt; refine congrArg _ (Finsupp.ext fun u => ?_); cases u
  rw [Pipeline.launchCredit_owing, Finsupp.single_eq_same, h]

omit [FloatOps F] in
theorem creds (c : Dev nD) :
    (Pipeline.launchCred O₀ c : sProp 𝕄)
      ⊢ iprop(cred (tallyAt (barCell c) () 15) ∗ bigSep Finset.univ fun r : Fin 15 => cred (tallyAt (recvCell c r) () N)) := by
  unfold Pipeline.launchCred
  rw [bigSep_univ_at _ (SemLoc.reg barS), launch_credit (barCell c) c _ rfl 15 (owed_bar c)]
  refine sep_mono_right ?_
  have h : (bigSep Finset.univ fun r : Fin 15 => (cred (tallyAt (recvCell c r) () N) : sProp 𝕄))
      = bigSep (Finset.univ.image fun r : Fin 15 => (SemLoc.dma (recvS r) : SemLoc sig))
          fun sm => cred (tallyOn ((c : Thread nD τ), sm) (launchCredit (Pipeline.owing O₀) 0 ((c : Thread nD τ), sm))) := by
    rw [BI.bigSep_image_of_injOn (f := fun r : Fin 15 => (SemLoc.dma (recvS r) : SemLoc sig))
      fun r _ r' _ h => congrArg Prod.snd (osem_inj (a₁ := (true, r)) (a₂ := (true, r')) h)]
    exact bigSep_congr fun r _ => by rw [launch_credit (recvCell c r) c _ rfl N (owed_recv c r)]
  rw [h]
  exact BI.bigSep_subset fun sm hs => by
    obtain ⟨r, -, rfl⟩ := Finset.mem_image.mp hs
    exact Finset.mem_erase.mpr ⟨(bar_ne_dma _).symm, Finset.mem_univ _⟩

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨⟨HzB, Hz⟩, Hacc, Hcom⟩
  isplitl [HzB]; · iexact HzB
  isplitl [Hz]; · iexact Hz
  isplitl [Hacc]; · iexists _; iexact Hacc
  iexists _; iexact Hcom

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- What a window's array holds at the end. -/
def finalA (c : Dev nD) (w : Fin cfg0.W) : Buf (Elt F) ((cfg0.win w).arr.view.loc (c : Thread nD τ)) := (dats m ρ 0 c).arrAt w cfg0.N

set_option maxRecDepth 8000 in
/-- On the mesh of sixteen devices, from any memory with zero counters: every fair execution ends, with every window's
    array as the launch's data say, and every semaphore counter at zero. -/
theorem run_main : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array holds at the end what it held. -/
theorem finalA_in (c : Dev nD) (w : Fin cfg0.W) (hw : w ≠ (4 : Fin 5)) : finalA m ρ c w = (s₀ m ρ).mem ((cfg0.win w).arr.view.loc (c : Thread nD τ)) :=
  (dats (F := F) m ρ 0 c).arrAt_in w (by revert hw; revert w; decide) _

/-- The result's array, read as its one block, is what the body computed. -/
theorem finalA_out (c : Dev nD) : (win0_4.blk (0 : Fin 1)).view.read (Elt F) (finalA m ρ c (4 : Fin 5)) = outAt m ρ c := by
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from by decide, if_pos rfl]
  exact View.read_write_univ _ _

/-- The run, read at the module's arrays: on every device the result, the arguments as they were, the counters at zero. -/
theorem run_out : θ_run defs (onTc (τ := τ) (main (F := F))) (s₀ m ρ)
    (fun r => (∀ c : Dev nD, r.2.mem ((c : Thread nD τ).loc main_v1) = outAt m ρ c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) := by
  have hz : (fun a => (win0_4.index (0 : Fin 1)) a * main_v1.ty.shape.size a) = fun _ => 0 := funext fun a => by fin_cases a <;> decide
  have hr := fun f => Memref.read_access_unit_zero (Elt F) main_v1 hz (fun a => by fin_cases a <;> decide) f
  refine (θ_run defs _ _).mono (fun r h => ⟨fun c => ⟨?_, ?_, ?_, ?_, ?_⟩, h.2⟩) (run_main m ρ)
  · exact (h.1 c (4 : Fin 5)).trans ((hr _).symm.trans (finalA_out m ρ c))
  · exact (h.1 c (0 : Fin 5)).trans (finalA_in m ρ c (0 : Fin 5) (by decide))
  · exact (h.1 c (1 : Fin 5)).trans (finalA_in m ρ c (1 : Fin 5) (by decide))
  · exact (h.1 c (2 : Fin 5)).trans (finalA_in m ρ c (2 : Fin 5) (by decide))
  · exact (h.1 c (3 : Fin 5)).trans (finalA_in m ρ c (3 : Fin 5) (by decide))

end Cert.Exchange

end
-- ==== Proof.Frames.lean ====
/-
# The frames

The kernel as printed and as idealized are the same text, so one run over any float values serves both.
-/
module

public import proofs.«01_k».proof.Proof.Launch
public import proofs.«01_k».proof.Defs
public import proofs.«01_k».proof.Proof.Gen.Kernel
public import proofs.«01_k».proof.Proof.Gen.ReferenceIdeal.Run

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Shape (idx3_ext)

variable {F : FTy → Type} [FloatOps F]

local notation "𝕄" => MT nD τ sig Unit (Elt F) ℕ UU ℕ

variable (m : (ℓ : Loc nD τ sig) → Buf (Elt F) ℓ) (ρ : Dev nD → PrngReg)

/-- At any float values the kernel ends with its arguments as they were and every counter at zero. -/
theorem run_frame : θ_run defs (onTc (τ := τ) (main (F := F))) (s₀ m ρ)
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) ∧ r.2.sem = fun _ => 0) :=
  (θ_run defs _ _).mono (fun r h => ⟨fun c => (h.1 c).2, h.2⟩) (run_out m ρ)

/-- The two printings of the kernel call the same body. -/
theorem same_defs₀ : Cert.Kernel.defs₀ (F := F) = Cert.KernelIdeal.defs₀ (F := F) := by
  unfold Cert.Kernel.defs₀ Cert.KernelIdeal.defs₀
  refine congrArg Defs.onTc (funext fun l => ?_)
  fin_cases l
  rfl

/-- So they run under the same procedures. -/
theorem same_defs : Cert.Kernel.defs (F := F) = Cert.KernelIdeal.defs (F := F) :=
  congrArg (Pipeline.defs Cert.KernelIdeal.pcfgs) same_defs₀

/-- The kernel as printed leaves its arguments and counters as it found them. -/
theorem frame_kernel : Cert.quiescent_Kernel := fun m ρ _ => by
  rw [same_defs]
  exact run_frame (F := Bits) m ρ

/-- So does the idealized kernel. -/
theorem frame_ideal : Cert.quiescent_KernelIdeal := fun m ρ _ => run_frame (F := Ideal) m ρ

/-- The reference leaves its arguments as it found them; it has no counter. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩
      fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0 :=
  (θ_run Cert.ReferenceIdeal.defs _ _).mono
    (fun r h => ⟨fun c => (h c).2, Idealize.ShloMosaic.sem_eq_zero_of_no_sems (by decide) r.2⟩)
    (Cert.ReferenceIdeal.Value.run m ρ)

/-- The reference's frame. -/
theorem frame_reference : Cert.quiescent_ReferenceIdeal := fun m ρ _ => run_reference m ρ

end Cert.Exchange

end
-- ==== Proof.Mix.lean ====
/-
# One token's mixture, over the extended reals

A token's probabilities are positive reals. Its weights keep the two named experts and are scaled to sum to one; the
sum over all experts of the weighted products is then the two named experts' products under their scaled
probabilities. The experts' weights may be infinite.
-/
module

public import Idealize.ShloMosaic.PureOps.Ideal
public import Idealize.ShloMosaic.PureOps.Ideal.Laws

@[expose] public section

noncomputable section

namespace Cert.Exchange

open Idealize.ShloMosaic
open scoped BigOperators

/-- A sum may be scaled by a nonnegative real term by term, whatever its terms. -/
theorem scale_sum {ι : Type} (s : Finset ι) (f : ι → EReal) {r : ℝ} (hr : 0 ≤ r) :
    ∑ k ∈ s, (r : EReal) * f k = (r : EReal) * ∑ k ∈ s, f k := by
  classical
  induction s using Finset.induction_on with
  | empty => simp
  | insert a t ha ih =>
    rw [Finset.sum_insert ha, Finset.sum_insert ha, ih]
    exact (EReal.left_distrib_of_nonneg_of_ne_top (by exact_mod_cast hr) (EReal.coe_ne_top r) _ _).symm

/-- Division of reals, by a nonzero one. -/
theorem div_real (p q : ℝ) (hq : q ≠ 0) : Ideal.div (p : EReal) (q : EReal) = ((p / q : ℝ) : EReal) := by
  rw [Ideal.div_coe hq, ← EReal.coe_mul, mul_one_div]

/-- The probability that survives the choice of experts `a` and `b`. -/
def kept (p : Fin 64 → EReal) (a b e : Fin 64) : EReal := if e = a ∨ e = b then p e else 0

/-- A token's weight of expert `e` when it chose `a` and `b`. -/
def weight (p : Fin 64 → EReal) (a b e : Fin 64) : EReal := Ideal.div (kept p a b e) (∑ f, kept p a b f)

/-- The product of a token with one expert. -/
def expert (x : Fin 256 → EReal) (W : Fin 64 → Fin 256 → EReal) (e : Fin 64) : EReal := ∑ k, x k * W e k

/-- An expert whose weight is a nonnegative real contributes its product, weighted. -/
theorem weighted_expert (x : Fin 256 → EReal) (W : Fin 64 → Fin 256 → EReal) (e : Fin 64) {w : EReal} {r : ℝ}
    (hr : 0 ≤ r) (h : w = r) : ∑ k, (x k * w) * W e k = w * expert x W e := by
  subst h
  rw [expert, ← scale_sum _ _ hr]
  exact Finset.sum_congr rfl fun k _ => by rw [mul_comm (x k), mul_assoc]

/-- The kept probabilities of two different experts sum to the two probabilities. -/
theorem sum_kept_ne (p : Fin 64 → EReal) {a b : Fin 64} (hab : a ≠ b) : ∑ f, kept p a b f = p a + p b := by
  rw [← Finset.sum_pair hab, ← Finset.sum_subset (Finset.subset_univ {a, b})]
  · refine Finset.sum_congr rfl fun e he => ?_
    rw [kept, if_pos (by simpa using he)]
  · intro e _ he
    rw [kept, if_neg (by simpa using he)]

/-- When both choices name one expert its probability is kept once. -/
theorem sum_kept_eq (p : Fin 64 → EReal) (a : Fin 64) : ∑ f, kept p a a f = p a := by
  rw [Finset.sum_eq_single a]
  · simp [kept]
  · intro e _ he
    simp [kept, he]
  · simp

/-- The mixture over all experts is the mixture of the two chosen ones. -/
theorem mix_eq (p : Fin 64 → EReal) (hp : ∀ e, ∃ r : ℝ, 0 < r ∧ p e = r) (a b : Fin 64) (x : Fin 256 → EReal)
    (W : Fin 64 → Fin 256 → EReal) :
    ∑ e, ∑ k, (x k * weight p a b e) * W e k
      = Ideal.div (p a) (p a + p b) * expert x W a + Ideal.div (p b) (p a + p b) * expert x W b := by
  obtain ⟨r, hr, hra⟩ := hp a
  obtain ⟨t, ht, htb⟩ := hp b
  have hs : ∃ s : ℝ, 0 < s ∧ ∑ f, kept p a b f = s := by
    by_cases hab : a = b
    · subst hab; exact ⟨r, hr, (sum_kept_eq p a).trans hra⟩
    · exact ⟨r + t, by positivity, by rw [sum_kept_ne p hab, hra, htb, EReal.coe_add]⟩
  obtain ⟨s, hs, hsum⟩ := hs
  have hw : ∀ e, ∃ v : ℝ, 0 ≤ v ∧ weight p a b e = v := by
    intro e
    obtain ⟨q, hq, hqe⟩ := hp e
    by_cases he : e = a ∨ e = b
    · exact ⟨q / s, by positivity, by rw [weight, hsum, kept, if_pos he, hqe, div_real _ _ hs.ne']⟩
    · exact ⟨0 / s, by simp, by rw [weight, hsum, kept, if_neg he, ← EReal.coe_zero, div_real _ _ hs.ne']⟩
  have hterm : ∀ e, ∑ k, (x k * weight p a b e) * W e k = weight p a b e * expert x W e := by
    intro e
    obtain ⟨v, hv, hve⟩ := hw e
    exact weighted_expert x W e hv hve
  have hz : ∀ e, ¬(e = a ∨ e = b) → weight p a b e * expert x W e = 0 := by
    intro e he
    rw [weight, hsum, kept, if_neg he, ← EReal.coe_zero, div_real _ _ hs.ne', zero_div, EReal.coe_zero, zero_mul]
  rw [Finset.sum_congr rfl fun e _ => hterm e]
  by_cases hab : a = b
  · subst hab
    rw [Finset.sum_eq_single a (fun e _ he => hz e (by simpa using he)) (by simp), weight, sum_kept_eq, kept,
      if_pos (.inl rfl), hra, ← EReal.coe_add, div_real _ _ hr.ne', div_real _ _ (by positivity),
      ← EReal.right_distrib_of_nonneg (by exact_mod_cast (by positivity : 0 ≤ r / (r + r)))
        (by exact_mod_cast (by positivity : 0 ≤ r / (r + r))), ← EReal.coe_add]
    congr 2
    field_simp
  · rw [← Finset.sum_subset (Finset.subset_univ {a, b}) (fun e _ he => hz e (by simpa using he)), Finset.sum_pair hab,
      weight, weight, sum_kept_ne p hab, kept, kept, if_pos (.inl rfl), if_pos (.inr rfl)]

/-- The greatest of finitely many reals, taken from −∞, is real. -/
theorem fold_max_real {n : ℕ} (s : Fin (n + 1) → EReal) (hs : ∀ e, ∃ r : ℝ, s e = r) :
    ∃ r : ℝ, (Finset.univ : Finset (Fin (n + 1))).fold max ⊥ s = r := by
  have h1 : (Finset.univ : Finset (Fin (n + 1))).fold max ⊥ s ≠ ⊤ := by
    refine ne_of_lt ((Finset.fold_max_lt ⊤).2 ⟨bot_lt_top, fun e _ => ?_⟩)
    obtain ⟨r, h⟩ := hs e
    rw [h]; exact EReal.coe_lt_top r
  have h2 : (Finset.univ : Finset (Fin (n + 1))).fold max ⊥ s ≠ ⊥ := by
    refine ne_of_gt ((Finset.lt_fold_max ⊥).2 (.inr ⟨0, Finset.mem_univ _, ?_⟩))
    obtain ⟨r, h⟩ := hs 0
    rw [h]; exact EReal.bot_lt_coe r
  exact ⟨_, (EReal.coe_toReal h1 h2).symm⟩

/-- A sum of reals is real. -/
theorem sum_real {ι : Type} (s : Finset ι) (f : ι → EReal) (hf : ∀ k ∈ s, ∃ r : ℝ, f k = r) : ∃ r : ℝ, ∑ k ∈ s, f k = r := by
  classical
  induction s using Finset.induction_on with
  | empty => exact ⟨0, by simp⟩
  | insert a t ha ih =>
    obtain ⟨r, hr⟩ := hf a (Finset.mem_insert_self a t)
    obtain ⟨q, hq⟩ := ih fun k hk => hf k (Finset.mem_insert_of_mem hk)
    exact ⟨r + q, by rw [Finset.sum_insert ha, hr, hq, EReal.coe_add]⟩

/-- A sum of positive reals over a nonempty range is a positive real. -/
theorem sum_pos_real {n : ℕ} (f : Fin (n + 1) → EReal) (hf : ∀ k, ∃ r : ℝ, 0 < r ∧ f k = r) :
    ∃ r : ℝ, 0 < r ∧ ∑ k, f k = r := by
  choose r hr hf using hf
  refine ⟨∑ k, r k, Finset.sum_pos (fun k _ => hr k) Finset.univ_nonempty, ?_⟩
  rw [Finset.sum_congr rfl fun k _ => hf k]
  exact (map_sum (⟨⟨Real.toEReal, EReal.coe_zero⟩, EReal.coe_add⟩ : ℝ →+ EReal) r Finset.univ).symm

/-- The softmax of real scores below any real level is positive and real. -/
theorem softmax_pos {n : ℕ} (s : Fin (n + 1) → EReal) (hs : ∀ e, ∃ r : ℝ, s e = r) {m : EReal} (hm : ∃ r : ℝ, m = r)
    (e : Fin (n + 1)) : ∃ r : ℝ, 0 < r ∧ Ideal.div (Ideal.exp (s e - m)) (∑ f, Ideal.exp (s f - m)) = r := by
  obtain ⟨q, rfl⟩ := hm
  have hx : ∀ f, ∃ r : ℝ, 0 < r ∧ Ideal.exp (s f - (q : EReal)) = r := by
    intro f
    obtain ⟨r, hr⟩ := hs f
    exact ⟨Real.exp (r - q), Real.exp_pos _, by rw [hr, ← EReal.coe_sub, Ideal.exp_coe]⟩
  obtain ⟨u, hu, hue⟩ := hx e
  obtain ⟨v, hv, hve⟩ := sum_pos_real _ hx
  exact ⟨u / v, by positivity, by rw [hue, hve, div_real _ _ hv.ne']⟩

end Cert.Exchange

end
-- ==== Proof.Reads.lean ====
/-
# What the kernel computes on one device, element by element

The kernel's vector expressions over the extended reals: the softmax of a token's scores, the weights of the experts, and
the sum of the products with the four experts a device keeps.
-/
module

public import proofs.«01_k».proof.Proof.Protocol
public import proofs.«01_k».proof.Proof.Mix
public import Idealize.ShloMosaic.Lib.KernelVsHost
public import Idealize.ShloMosaic.Lib.MatmulPlain
public import Idealize.ShloMosaic.Lib.Affine

@[expose] public section

noncomputable section

namespace Cert.Exchange

open Cert.KernelIdeal Cert.KernelIdeal.Gen

open Idealize.ShloMosaic
open Idealize.ShloMosaic.ValueIdx
open Idealize.ShloMosaic.Shape (idx3_ext)
open scoped BigOperators

/-- The score of expert `e` for token `t`. -/
def score (x : FVec Ideal S512x256 .f32) (rw : FVec Ideal S256x64 .f32) (t : Fin 512) (e : Fin 64) : EReal :=
  ∑ k : Fin 256, x (ix2 t k) * rw (ix2 k e)

/-- A token's greatest score. -/
def top (x : FVec Ideal S512x256 .f32) (rw : FVec Ideal S256x64 .f32) (t : Fin 512) : EReal :=
  (Finset.univ : Finset (Fin 64)).fold max ⊥ (score x rw t)

/-- The probability of expert `e` for token `t`: the softmax of the scores. -/
def prob (x : FVec Ideal S512x256 .f32) (rw : FVec Ideal S256x64 .f32) (t : Fin 512) (e : Fin 64) : EReal :=
  Ideal.div (Ideal.exp (score x rw t e - top x rw t)) (∑ f, Ideal.exp (score x rw t f - top x rw t))

/-- With finite tokens and router every score is real. -/
theorem score_real {x : FVec Ideal S512x256 .f32} {rw : FVec Ideal S256x64 .f32} (hx : ∀ i, ∃ r : ℝ, x i = (r : EReal))
    (hw : ∀ i, ∃ r : ℝ, rw i = (r : EReal)) (t : Fin 512) (e : Fin 64) : ∃ r : ℝ, score x rw t e = r := by
  refine sum_real _ _ fun k _ => ?_
  obtain ⟨p, hp⟩ := hx (ix2 t k)
  obtain ⟨q, hq⟩ := hw (ix2 k e)
  exact ⟨p * q, by rw [hp, hq, EReal.coe_mul]⟩

/-- So every probability is a positive real. -/
theorem prob_pos {x : FVec Ideal S512x256 .f32} {rw : FVec Ideal S256x64 .f32} (hx : ∀ i, ∃ r : ℝ, x i = (r : EReal))
    (hw : ∀ i, ∃ r : ℝ, rw i = (r : EReal)) (t : Fin 512) (e : Fin 64) : ∃ r : ℝ, 0 < r ∧ prob x rw t e = r :=
  softmax_pos (n := 63) _ (score_real hx hw t) (fold_max_real (n := 63) _ (score_real hx hw t)) e

/-! ### The vector operations -/

/-- A column spread over `n` columns. -/
theorem column_apply {n : Nat} (v : FVec Ideal S512 .f32) (h : S512.ShapeCasts S512x1)
    (h' : S512x1.Broadcasts ⟨2, ![512, n]⟩) (t : Fin 512) (e : Fin n) :
    broadcastTo ⟨2, ![512, n]⟩ (shapeCast S512x1 v h) h' (ix2 t e) = v (ix1 t) := by
  rw [broadcastTo_apply _ h' (ix2 t e) (ix2 t 0) (fun a => by fin_cases a <;> rfl)]
  exact shapeCast_apply v h _ _ (by rw [Shape.rowMajor_val_two, Shape.rowMajor_val_one]; simp [ix1, ix2])

/-- The sum along a row. -/
theorem rowSum_apply (v : FVec Ideal S512x64 .f32) (t : Fin 512) :
    multiReduction .add [1] S512 v 0x00000000#32 reduces_S512x64_S512 (.inl rfl) rfl (ix1 t) = ∑ e : Fin 64, v (ix2 t e) := by
  refine (Ideal.multiReduction_add_single v _ _ _ _ (ix1 t)).trans ?_
  exact Finset.sum_congr rfl fun e _ => congrArg v (idx2_ext rfl rfl)

/-- The word of −∞. -/
theorem minusInf : Ideal.ofBits .f32 0xFF800000#32 = ⊥ := by simp [Ideal.ofBits, Ideal.ieee]

/-- The greatest element of a row. -/
theorem rowMax_apply (v : FVec Ideal S512x64 .f32) (t : Fin 512) :
    multiReduction .maximumf [1] S512 v 0xFF800000#32 reduces_S512x64_S512 (.inl rfl) rfl (ix1 t)
      = (Finset.univ : Finset (Fin 64)).fold max ⊥ (fun e => v (ix2 t e)) := by
  refine (Ideal.multiReduction_maximumf_single v _ _ _ _ (ix1 t)).trans ?_
  rw [show FloatOps.ofBits (F := Ideal) .f32 0xFF800000#32 = ⊥ from minusInf]
  exact congrArg (Finset.fold max ⊥ · Finset.univ) (funext fun e => congrArg v (idx2_ext rfl rfl))

/-- A choice by equality of words. -/
theorem select_words (u v : BitVec 32) (p q : EReal) :
    Scalar.select (IntOp.cmpi .eq u v) p q = if u = v then p else q := by
  by_cases h : u = v
  · rw [if_pos h, IntOp.cmpi_eq.2 h, select_one]
  · rw [if_neg h, eq_zero_of_ne_one (fun h' => h (IntOp.cmpi_eq.1 h')), select_zero]

/-- Words of small numbers are equal only when the numbers are. -/
theorem word_inj (e f : Fin 64) : BitVec.ofNat 32 e.val = BitVec.ofNat 32 f.val ↔ e = f := by
  refine ⟨fun h => Fin.ext ?_, fun h => h ▸ rfl⟩
  have := congrArg BitVec.toNat h
  simp only [BitVec.toNat_ofNat] at this
  omega

/-! ### The weights -/

/-- The kernel's scores. -/
def scoresVec (x : FVec Ideal S512x256 .f32) (rw : FVec Ideal S256x64 .f32) : FVec Ideal S512x64 .f32 :=
  matmul dot_S512x256_S256x64_S512x64_1_0_0_1_n_n none (k0_pay2 x) (shapeCast S256x64 rw shapeCasts_S256x64_S256x64) (constant S512x64 .f32 0x00000000#32)

/-- A shape cast to the same shape changes nothing. -/
theorem same_shape {s : Shape} {α : Type} (v : s.Idx → α) (h : s.ShapeCasts s) : shapeCast s v h = v :=
  funext fun j => shapeCast_apply v h j j rfl

/-- The kernel's scores, at a token and an expert. -/
theorem scoresVec_apply (x : FVec Ideal S512x256 .f32) (rw : FVec Ideal S256x64 .f32) (t : Fin 512) (e : Fin 64) :
    scoresVec x rw (ix2 t e) = score x rw t e := by
  unfold scoresVec k0_pay2
  rw [same_shape, same_shape]
  refine (Ideal.matmul_plain_apply none x rw _ t e).trans ?_
  rw [constant_apply, Ideal.ofBits_zero_f32, zero_add]
  rfl

/-- The kernel's scores, less the greatest of the row, exponentiated. -/
def expVec (x : FVec Ideal S512x256 .f32) (rw : FVec Ideal S256x64 .f32) : FVec Ideal S512x64 .f32 :=
  exp (subf (scoresVec x rw) (broadcastTo S512x64 (shapeCast S512x1
    (multiReduction .maximumf [1] S512 (scoresVec x rw) 0xFF800000#32 reduces_S512x64_S512 (.inl rfl) rfl) shapeCasts_S512_S512x1) broadcasts_S512x1_S512x64))

/-- The exponentials, at a token and an expert. -/
theorem expVec_apply (x : FVec Ideal S512x256 .f32) (rw : FVec Ideal S256x64 .f32) (t : Fin 512) (e : Fin 64) :
    expVec x rw (ix2 t e) = Ideal.exp (score x rw t e - top x rw t) := by
  show Ideal.exp (scoresVec x rw (ix2 t e) - broadcastTo S512x64 _ broadcasts_S512x1_S512x64 (ix2 t e)) = _
  rw [column_apply, rowMax_apply, scoresVec_apply]
  simp only [scoresVec_apply]
  rfl

/-- The rows of a vector divided by their sums. -/
def normalized (v : FVec Ideal S512x64 .f32) : FVec Ideal S512x64 .f32 :=
  divf v (broadcastTo S512x64 (shapeCast S512x1
    (multiReduction .add [1] S512 v 0x00000000#32 reduces_S512x64_S512 (.inl rfl) rfl) shapeCasts_S512_S512x1) broadcasts_S512x1_S512x64)

/-- A normalized row is the row divided by its sum. -/
theorem normalized_apply (v : FVec Ideal S512x64 .f32) (t : Fin 512) (e : Fin 64) :
    normalized v (ix2 t e) = Ideal.div (v (ix2 t e)) (∑ f : Fin 64, v (ix2 t f)) := by
  show Ideal.div (v (ix2 t e)) (broadcastTo S512x64 _ broadcasts_S512x1_S512x64 (ix2 t e)) = _
  rw [column_apply, rowSum_apply]

/-- The kernel's probabilities are the softmax. -/
theorem probs_apply (x : FVec Ideal S512x256 .f32) (rw : FVec Ideal S256x64 .f32) (t : Fin 512) (e : Fin 64) :
    normalized (expVec x rw) (ix2 t e) = prob x rw t e := by
  rw [normalized_apply, expVec_apply]
  simp only [expVec_apply]
  rfl

/-- The probabilities that survive the choice of two experts. -/
def keptVec (p : FVec Ideal S512x64 .f32) (idx : IVec S512x2 32) : FVec Ideal S512x64 .f32 :=
  select (ori
      (cmpi .eq (iota .tc S512x64 32 [1] iota_S512x64_d1_w32) (broadcastTo S512x64 (extractStridedSlice S512x1 ![0, 0]
        (shapeCast S512x2 idx shapeCasts_S512x2_S512x2) slices_S512x2_o0_0_S512x1) broadcasts_S512x1_S512x64))
      (cmpi .eq (iota .tc S512x64 32 [1] iota_S512x64_d1_w32) (broadcastTo S512x64 (extractStridedSlice S512x1 ![0, 1]
        (shapeCast S512x2 idx shapeCasts_S512x2_S512x2) slices_S512x2_o0_1_S512x1) broadcasts_S512x1_S512x64)))
    p (broadcast S512x64 (Scalar.ofBits .f32 0x00000000#32))

/-- A column of the choices, spread over the experts. -/
theorem choice_apply (idx : IVec S512x2 32) (o : Fin 2) (h : S512x2.Slices ![0, o.val] S512x1) (t : Fin 512) (e : Fin 64) :
    broadcastTo S512x64 (extractStridedSlice S512x1 ![0, o.val] (shapeCast S512x2 idx shapeCasts_S512x2_S512x2) h)
      broadcasts_S512x1_S512x64 (ix2 t e) = idx (ix2 t o) := by
  rw [broadcastTo_apply _ broadcasts_S512x1_S512x64 (ix2 t e) (ix2 t 0) (fun a => by fin_cases a <;> rfl), same_shape]
  exact extractStridedSlice_apply _ idx h _ _ (fun a => by fin_cases a <;> simp [ix2])

/-- A choice by either of two equalities of words. -/
theorem select_either (u v w : BitVec 32) (p q : EReal) :
    Scalar.select (IntOp.ori (IntOp.cmpi .eq u v) (IntOp.cmpi .eq u w)) p q = if u = v ∨ u = w then p else q := by
  by_cases h : u = v
  · rw [if_pos (.inl h), IntOp.cmpi_eq.2 h]
    by_cases h' : u = w
    · rw [IntOp.cmpi_eq.2 h']; rfl
    · rw [eq_zero_of_ne_one (fun k => h' (IntOp.cmpi_eq.1 k))]; rfl
  · rw [eq_zero_of_ne_one (fun k => h (IntOp.cmpi_eq.1 k))]
    by_cases h' : u = w
    · rw [if_pos (.inr h'), IntOp.cmpi_eq.2 h']; rfl
    · rw [if_neg (not_or.2 ⟨h, h'⟩), eq_zero_of_ne_one (fun k => h' (IntOp.cmpi_eq.1 k))]; rfl

/-- A probability survives where the expert is one of the two chosen. -/
theorem keptVec_apply (p : FVec Ideal S512x64 .f32) (idx : IVec S512x2 32) (t : Fin 512) (a b : Fin 64)
    (ha : idx (ix2 t 0) = BitVec.ofNat 32 a.val) (hb : idx (ix2 t 1) = BitVec.ofNat 32 b.val) (e : Fin 64) :
    keptVec p idx (ix2 t e) = kept (fun f => p (ix2 t f)) a b e := by
  have hi : iota .tc S512x64 32 [1] iota_S512x64_d1_w32 (ix2 t e) = BitVec.ofNat 32 e.val := by
    rw [iota_single_apply]
  refine (select_either _ _ _ _ _).trans ?_
  have h0 := choice_apply idx 0 slices_S512x2_o0_0_S512x1 t e
  have h1 := choice_apply idx 1 slices_S512x2_o0_1_S512x1 t e
  simp only [Fin.val_zero, Fin.val_one] at h0 h1
  rw [h0, h1, ha, hb, hi]
  simp only [word_inj]
  rw [kept]
  congr 1
  exact Ideal.ofBits_zero_f32

/-- The kernel's weights, as the composition of these steps. -/
theorem weights_steps (x : FVec Ideal S512x256 .f32) (rw : FVec Ideal S256x64 .f32) (idx : IVec S512x2 32) :
    k0_pay3 (F := Ideal) x rw idx = normalized (keptVec (normalized (expVec x rw)) idx) := rfl

/-- The kernel's weight of expert `e` for a token which chose `a` and `b`. -/
theorem weights_apply (x : FVec Ideal S512x256 .f32) (rw : FVec Ideal S256x64 .f32) (idx : IVec S512x2 32) (t : Fin 512)
    (a b : Fin 64) (ha : idx (ix2 t 0) = BitVec.ofNat 32 a.val) (hb : idx (ix2 t 1) = BitVec.ofNat 32 b.val) (e : Fin 64) :
    k0_pay3 (F := Ideal) x rw idx (ix2 t e) = weight (prob x rw t) a b e := by
  rw [weights_steps, normalized_apply]
  simp only [keptVec_apply _ _ t a b ha hb, probs_apply]
  rfl

/-! ### The four experts of a device -/

/-- The product of the tokens, each scaled by its weight of the expert whose number is the word `w`, with that expert. -/
def expertTerm (x : FVec Ideal S512x256 .f32) (v : FVec Ideal S512x64 .f32) (w : BitVec 32) (W : FVec Ideal S1x256x512 .f32) :
    FVec Ideal S512x512 .f32 :=
  matmul dot_S512x256_S256x512_S512x512_1_0_0_1_n_n none
    (mulf x (broadcastTo S512x256 (shapeCast S512x1 (multiReduction .add [1] S512
      (select (cmpi .eq (iota .tc S512x64 32 [1] iota_S512x64_d1_w32) (broadcast S512x64 w)) v
        (broadcast S512x64 (Scalar.ofBits .f32 0x00000000#32)))
      0x00000000#32 reduces_S512x64_S512 (.inl rfl) rfl) shapeCasts_S512_S512x1) broadcasts_S512x1_S512x256))
    (shapeCast S256x512 W shapeCasts_S1x256x512_S256x512) (constant S512x512 .f32 0x00000000#32)

/-- An expert's term, at a token and an output: the weighted product with that expert. -/
theorem expertTerm_apply (x : FVec Ideal S512x256 .f32) (v : FVec Ideal S512x64 .f32) (e : Fin 64)
    (W : FVec Ideal S1x256x512 .f32) (t o : Fin 512) :
    expertTerm x v (BitVec.ofNat 32 e.val) W (ix2 t o)
      = ∑ k : Fin 256, (x (ix2 t k) * v (ix2 t e)) * W (ix3 0 k o) := by
  refine (Ideal.matmul_plain_apply none _ _ _ t o).trans ?_
  rw [constant_apply, Ideal.ofBits_zero_f32, zero_add]
  refine Finset.sum_congr rfl fun k _ => ?_
  congr 1
  · rw [mulf_apply, column_apply, rowSum_apply]
    congr 1
    have h : ∀ f : Fin 64, select (cmpi .eq (iota .tc S512x64 32 [1] iota_S512x64_d1_w32) (broadcast S512x64 (BitVec.ofNat 32 e.val)))
        v (broadcast S512x64 (Scalar.ofBits .f32 0x00000000#32)) (ix2 t f) = if f = e then v (ix2 t f) else 0 := fun f => by
      refine (select_words _ _ _ _).trans ?_
      rw [iota_single_apply]
      refine (if_congr (word_inj f e) rfl ?_)
      exact Ideal.ofBits_zero_f32
    rw [Finset.sum_congr rfl fun f _ => h f, Finset.sum_ite_eq' Finset.univ e, if_pos (Finset.mem_univ e)]
  · exact shapeCast_apply W _ _ _ (by
      rw [Shape.rowMajor_val_two, Shape.rowMajor_val_three]; simp [ix2, ix3])

/-- The number of the `j`-th expert device `c` keeps. -/
def expertNo (c : Dev nD) (j : Fin 4) : Fin 64 := ⟨4 * c.val + j.val, by have := c.isLt; have := j.isLt; simp only [nD] at *; omega⟩

/-- The kernel's arithmetic on words gives that number. -/
theorem expertNo_word : ∀ (c : Dev nD) (j : Fin 4),
    Scalar.addi (Scalar.muli (pos c) 4#32) (BitVec.ofNat 32 j.val) = BitVec.ofNat 32 (expertNo c j).val := by decide +kernel

/-- The sum a device computes, as the four terms of its experts. -/
theorem partialSum_steps (c : Dev nD) (x : FVec Ideal S512x256 .f32) (rw : FVec Ideal S256x64 .f32) (idx : IVec S512x2 32)
    (ew : FVec Ideal S4x256x512 .f32) :
    partialSum (F := Ideal) c x rw idx ew =
      addf (addf (addf (addf (broadcast S512x512 (Scalar.ofBits .f32 0x00000000#32))
        (expertTerm (k0_pay2 x) (k0_pay3 x rw idx) (Scalar.addi (Scalar.muli (pos c) 4#32) 0#32) (expertOf (F := Ideal) ew 0)))
        (expertTerm (k0_pay2 x) (k0_pay3 x rw idx) (Scalar.addi (Scalar.muli (pos c) 4#32) 1#32) (expertOf (F := Ideal) ew 1)))
        (expertTerm (k0_pay2 x) (k0_pay3 x rw idx) (Scalar.addi (Scalar.muli (pos c) 4#32) 2#32) (expertOf (F := Ideal) ew 2)))
        (expertTerm (k0_pay2 x) (k0_pay3 x rw idx) (Scalar.addi (Scalar.muli (pos c) 4#32) 3#32) (expertOf (F := Ideal) ew 3)) := by
  unfold partialSum k0_pay8
  refine (same_shape _ _).trans ?_
  rfl

/-- An expert read from the device's four. -/
theorem expertOf_apply (ew : FVec Ideal S4x256x512 .f32) (j : Fin 4) (k : Fin 256) (o : Fin 512) :
    expertOf (F := Ideal) ew j (ix3 0 k o) = ew (ix3 j k o) := by
  show ew _ = ew _
  congr 1
  refine idx3_ext ?_ ?_ ?_
  · show j.val + 1 * 0 = j.val
    omega
  · show 0 + 1 * k.val = k.val
    omega
  · show 0 + 1 * o.val = o.val
    omega

/-- What a device computes before the exchange: for every token and output, the sum over the device's experts of the
weighted products. -/
theorem partialSum_apply (c : Dev nD) (x : FVec Ideal S512x256 .f32) (rw : FVec Ideal S256x64 .f32) (idx : IVec S512x2 32)
    (ew : FVec Ideal S4x256x512 .f32) (t o : Fin 512) (a b : Fin 64)
    (ha : idx (ix2 t 0) = BitVec.ofNat 32 a.val) (hb : idx (ix2 t 1) = BitVec.ofNat 32 b.val) :
    partialSum (F := Ideal) c x rw idx ew (ix2 t o) =
      ∑ j : Fin 4, ∑ k : Fin 256, (x (ix2 t k) * weight (prob x rw t) a b (expertNo c j)) * ew (ix3 j k o) := by
  have hx : k0_pay2 (F := Ideal) x = x := same_shape _ _
  have h : ∀ j : Fin 4, expertTerm (k0_pay2 x) (k0_pay3 x rw idx)
      (Scalar.addi (Scalar.muli (pos c) 4#32) (BitVec.ofNat 32 j.val)) (expertOf (F := Ideal) ew j) (ix2 t o)
        = ∑ k : Fin 256, (x (ix2 t k) * weight (prob x rw t) a b (expertNo c j)) * ew (ix3 j k o) := fun j => by
    rw [expertNo_word, hx, expertTerm_apply]
    simp only [weights_apply x rw idx t a b ha hb, expertOf_apply]
  rw [partialSum_steps]
  simp only [addf_apply]
  rw [Fin.sum_univ_four, ← h 0, ← h 1, ← h 2, ← h 3]
  rw [show broadcast S512x512 (Scalar.ofBits (F := Ideal) .f32 0x00000000#32) (ix2 t o) = (0 : EReal) from Ideal.ofBits_zero_f32,
    zero_add]
  rfl

end Cert.Exchange

end
-- ==== Proof.Plain.lean ====
/-
# What the reference computes, element by element

The reference over the extended reals, for tokens whose two choices are numbers of experts: no index wraps around and no
gather clamps, so each element is the mixture of the two chosen experts' products.
-/
module

public import proofs.«01_k».proof.Proof.Reads
public import proofs.«01_k».proof.Proof.Gen.ReferenceIdeal.Read

@[expose] public section

noncomputable section

namespace Cert.Exchange

open Cert.ReferenceIdeal Cert.ReferenceIdeal.Gen Cert.ReferenceIdeal.Read

open Idealize.ShloMosaic
open Idealize.ShloMosaic.ValueIdx
open Idealize.ShloMosaic.Shape (idx3_ext)
open scoped BigOperators

/-! ### Words of indices -/

/-- A small number's word, read signed, is the number. -/
theorem word_toInt {n : Nat} (h : n < 2 ^ 31) : (BitVec.ofNat 32 n).toInt = (n : Int) := by
  rw [BitVec.toInt_eq_toNat_of_lt (by rw [BitVec.toNat_ofNat]; omega), BitVec.toNat_ofNat]
  omega

/-- The wrap-around of negative indices leaves a small number alone. -/
theorem wrap_small {n : Nat} (h : n < 2 ^ 31) (u : BitVec 32) :
    Scalar.select (IntOp.cmpi .slt (BitVec.ofNat 32 n) 0#32) u (BitVec.ofNat 32 n) = BitVec.ofNat 32 n := by
  have hk : ¬ IntOp.cmpi .slt (BitVec.ofNat 32 n) 0#32 = 1#1 := fun k => by
    have hlt := IntOp.cmpi_slt.1 k
    rw [word_toInt h] at hlt
    have h0 : (0#32 : BitVec 32).toInt = 0 := rfl
    omega
  rw [eq_zero_of_ne_one hk, select_zero]

/-- The clamping of a gather leaves a number in range alone. -/
theorem clamp_small {n N : Nat} (h : n < N) (hN : N ≤ 2 ^ 31) : min (BitVec.ofNat 32 n).toInt.toNat (N - 1) = n := by
  rw [word_toInt (by omega)]
  omega

/-! ### The gathers -/

/-- Picking one element of a matrix per token, at a row and a column in range. -/
theorem pick_apply {α : Type} (x : S512x64.Idx → α) (idx : IVec S512x2 32) (t r : Fin 512) (e : Fin 64)
    (hr : idx (ix2 t 0) = BitVec.ofNat 32 r.val) (he : idx (ix2 t 1) = BitVec.ofNat 32 e.val) :
    Host.gather gather_S512x64_S512x2_S512_n_01_n_n_01_1_11 x idx (ix1 t) = x (ix2 r e) := by
  have key : ∀ (a : Fin 2) (ha : a ∈ gather_S512x64_S512x2_S512_n_01_n_n_01_1_11.startIndexMap) (o : Fin 2) (n N : Nat)
      (ho : gather_S512x64_S512x2_S512_n_01_n_n_01_1_11.siIdx (ix1 t) ⟨_, List.idxOf_lt_length_iff.2 ha⟩ = ix2 t o)
      (hw : idx (ix2 t o) = BitVec.ofNat 32 n) (hn : n < N) (hN : N ≤ 2 ^ 31)
      (hs : S512x64.size a - gather_S512x64_S512x2_S512_n_01_n_n_01_1_11.sliceSizes a = N - 1)
      (hc : a ∈ gather_S512x64_S512x2_S512_n_01_n_n_01_1_11.collapsedSliceDims),
      (gather_S512x64_S512x2_S512_n_01_n_n_01_1_11.operandIdx (ix1 t) idx a).val = n := by
    intro a ha o n N ho hw hn hN hs hc
    show gather_S512x64_S512x2_S512_n_01_n_n_01_1_11.start (ix1 t) idx a
      + gather_S512x64_S512x2_S512_n_01_n_n_01_1_11.batchCoord (ix1 t) a
      + gather_S512x64_S512x2_S512_n_01_n_n_01_1_11.offCoord (ix1 t) a = n
    rw [GatherDims.batchCoord_eq_zero _ _ _ List.not_mem_nil,
      GatherDims.offCoord_eq_zero _ _ _ (fun h => ((GatherDims.mem_sKept _ _).1 h).1 hc)]
    unfold GatherDims.start
    rw [dif_pos ha, ho, hw, hs, clamp_small hn hN, Nat.add_zero]
  refine congrArg x (idx2_ext ?_ ?_)
  · exact key 0 (by decide) 0 r.val 512 (idx2_ext rfl rfl) hr r.isLt (by norm_num) rfl (by decide)
  · exact key 1 (by decide) 1 e.val 64 (idx2_ext rfl rfl) he e.isLt (by norm_num) rfl (by decide)

/-- Picking one expert's matrix per token, at a number in range. -/
theorem expert_apply {α : Type} (W : S64x256x512.Idx → α) (idx : IVec S512x1 32) (t : Fin 512) (e : Fin 64)
    (he : idx (ix2 t 0) = BitVec.ofNat 32 e.val) (k : Fin 256) (o : Fin 512) :
    Host.gather gather_S64x256x512_S512x1_S512x256x512_12_0_n_n_0_1_1256512 W idx (ix3 t k o) = W (ix3 e k o) := by
  have hm : (0 : Fin 3) ∈ gather_S64x256x512_S512x1_S512x256x512_12_0_n_n_0_1_1256512.startIndexMap := by decide
  refine congrArg W (idx3_ext ?_ ?_ ?_)
  · show gather_S64x256x512_S512x1_S512x256x512_12_0_n_n_0_1_1256512.start (ix3 t k o) idx 0
      + gather_S64x256x512_S512x1_S512x256x512_12_0_n_n_0_1_1256512.batchCoord (ix3 t k o) 0
      + gather_S64x256x512_S512x1_S512x256x512_12_0_n_n_0_1_1256512.offCoord (ix3 t k o) 0 = e.val
    rw [GatherDims.batchCoord_eq_zero _ _ _ List.not_mem_nil,
      GatherDims.offCoord_eq_zero _ _ _ (fun h => ((GatherDims.mem_sKept _ _).1 h).1 (by decide))]
    unfold GatherDims.start
    have ho : gather_S64x256x512_S512x1_S512x256x512_12_0_n_n_0_1_1256512.siIdx (ix3 t k o)
        ⟨_, List.idxOf_lt_length_iff.2 hm⟩ = ix2 t 0 := idx2_ext rfl rfl
    rw [dif_pos hm, ho, he]
    exact clamp_small e.isLt (by norm_num)
  · show gather_S64x256x512_S512x1_S512x256x512_12_0_n_n_0_1_1256512.start (ix3 t k o) idx 1
      + gather_S64x256x512_S512x1_S512x256x512_12_0_n_n_0_1_1256512.batchCoord (ix3 t k o) 1
      + gather_S64x256x512_S512x1_S512x256x512_12_0_n_n_0_1_1256512.offCoord (ix3 t k o) 1 = k.val
    rw [GatherDims.batchCoord_eq_zero _ _ _ List.not_mem_nil]
    unfold GatherDims.start
    rw [dif_neg (by decide), Nat.add_zero, Nat.zero_add]
    rfl
  · show gather_S64x256x512_S512x1_S512x256x512_12_0_n_n_0_1_1256512.start (ix3 t k o) idx 2
      + gather_S64x256x512_S512x1_S512x256x512_12_0_n_n_0_1_1256512.batchCoord (ix3 t k o) 2
      + gather_S64x256x512_S512x1_S512x256x512_12_0_n_n_0_1_1256512.offCoord (ix3 t k o) 2 = o.val
    rw [GatherDims.batchCoord_eq_zero _ _ _ List.not_mem_nil]
    unfold GatherDims.start
    rw [dif_neg (by decide), Nat.add_zero, Nat.zero_add]
    rfl

/-! ### The softmax -/

/-- The reference's scores. -/
theorem ref_score (x : FVec Ideal S512x256 .f32) (rw : FVec Ideal S256x64 .f32) (t : Fin 512) (e : Fin 64) :
    val_main_v0 (F := Ideal) x rw (ix2 t e) = score x rw t e := by
  rw [val_main_v0_apply]
  exact Finset.sum_congr rfl fun k _ => congrArg₂ (· * ·) (congrArg x (idx2_ext rfl rfl)) (congrArg rw (idx2_ext rfl rfl))

/-- The reference's greatest element of a row. -/
theorem host_rowMax (v : FVec Ideal S512x64 .f32) (t : Fin 512) :
    Host.reduce FloatOps.maximumf v (constant S_ .f32 0xFF800000#32) reducesTo_S512x64_S512_d1 h_S_ (ix1 t)
      = (Finset.univ : Finset (Fin 64)).fold max ⊥ (fun e => v (ix2 t e)) := by
  rw [hostReduce_maximumf_eq_multiReduction v 0xFF800000#32 reducesTo_S512x64_S512_d1 h_S_
    Cert.KernelIdeal.Gen.reduces_S512x64_S512 (.inl rfl) rfl]
  exact rowMax_apply v t

/-- The reference's greatest scores. -/
theorem ref_top (x : FVec Ideal S512x256 .f32) (rw : FVec Ideal S256x64 .f32) (t : Fin 512) :
    val_main_v1 (F := Ideal) x rw (ix1 t) = top x rw t := by
  unfold val_main_v1 val_main_cst
  rw [host_rowMax]
  exact congrArg (Finset.fold max ⊥ · Finset.univ) (funext fun f => ref_score x rw t f)

/-- The reference's exponentials. -/
theorem ref_exp (x : FVec Ideal S512x256 .f32) (rw : FVec Ideal S256x64 .f32) (t : Fin 512) (e : Fin 64) :
    val_main_v5 (F := Ideal) x rw (ix2 t e) = Ideal.exp (score x rw t e - top x rw t) := by
  have hm : val_main_v3 (F := Ideal) x rw (ix2 t e) = top x rw t := by
    rw [val_main_v3_apply, val_main_v2_apply]
    rw [show idx_main_v2 (idx_main_v3 (ix2 t e)) = ix1 t from eq_ix1 _, ref_top]
  rw [val_main_v5_apply, val_main_v4_apply, hm, ref_score]
  rfl

/-- The reference's probabilities are the softmax. -/
theorem ref_prob (x : FVec Ideal S512x256 .f32) (rw : FVec Ideal S256x64 .f32) (t : Fin 512) (e : Fin 64) :
    val_main_v9 (F := Ideal) x rw (ix2 t e) = prob x rw t e := by
  have hs : val_main_v8 (F := Ideal) x rw (ix2 t e) = ∑ f, Ideal.exp (score x rw t f - top x rw t) := by
    rw [val_main_v8_apply, val_main_v7_apply, val_main_v6_apply, val_main_cst_0_apply]
    rw [show FloatOps.ofBits (F := Ideal) .f32 0x00000000#32 = (0 : EReal) from Ideal.ofBits_zero_f32, zero_add]
    refine Finset.sum_congr rfl fun f _ => ?_
    rw [show idx_main_v6 (idx_main_v7 (idx_main_v8 (ix2 t e))) f = ix2 t f from idx2_ext rfl rfl, ref_exp]
  rw [val_main_v9_apply, hs, ref_exp]
  rfl

/-! ### The choices -/

section Choices

variable (idx : IVec S512x2 32) (t : Fin 512) (a b : Fin 64)
variable (ha : idx (ix2 t 0) = BitVec.ofNat 32 a.val) (hb : idx (ix2 t 1) = BitVec.ofNat 32 b.val)

include ha in
/-- The first choice, as the reference reads it. -/
theorem first_choice : val_main_v12 (F := Ideal) idx (ix1 t) = BitVec.ofNat 32 a.val := by
  rw [val_main_v12_apply, val_main_v11_apply, ← ha]
  exact congrArg idx (idx2_ext (Nat.div_one _) rfl)

include hb in
/-- The second choice. -/
theorem second_choice : val_main_v14 (F := Ideal) idx (ix1 t) = BitVec.ofNat 32 b.val := by
  rw [val_main_v14_apply, val_main_v13_apply, ← hb]
  exact congrArg idx (idx2_ext (Nat.div_one _) rfl)

/-- A column of words broadcast from a list is the list. -/
theorem column_of_list (v : S512.Idx → BitVec 32) :
    broadcastInDim S512x1 ![0] bcast_S512_S512x1_0 v (ix2 t 0) = v (ix1 t) :=
  broadcastInDim_apply _ bcast_S512_S512x1_0 v _ _ (fun q => by fin_cases q; rfl)

/-- The pair of a token's number and its choice, read from the two columns. -/
theorem pair_apply (u v : S512x1.Idx → BitVec 32) (h : Shape.Concatenates [S512x1, S512x1] S512x2 1) :
    concatenate S512x2 1 [⟨S512x1, u⟩, ⟨S512x1, v⟩] h (ix2 t 0) = u (ix2 t 0)
      ∧ concatenate S512x2 1 [⟨S512x1, u⟩, ⟨S512x1, v⟩] h (ix2 t 1) = v (ix2 t 0) :=
  ⟨concatenate_pair_apply_left 1 u v h (ix2 t 0) rfl (ix2 t 0) (fun q => by fin_cases q <;> rfl),
    concatenate_pair_apply_right 1 u v h (ix2 t 1) rfl rfl (ix2 t 0)
      (fun q hq => by fin_cases q; · rfl
                      · exact absurd rfl hq) rfl⟩

include ha in
/-- The first choice's probability. -/
theorem ref_first (x : FVec Ideal S512x256 .f32) (rw : FVec Ideal S256x64 .f32) :
    val_main_v28 (F := Ideal) x rw idx (ix1 t) = prob x rw t a := by
  rw [← ref_prob]
  refine pick_apply _ _ t t a ?_ ?_
  · refine (pair_apply t _ _ concatenates_S512x1_S512x1_S512x2_d1).1.trans ((column_of_list t _).trans ?_)
    exact wrap_small (n := t.val) (by have := t.isLt; omega) _
  · refine (pair_apply t _ _ concatenates_S512x1_S512x1_S512x2_d1).2.trans ((column_of_list t _).trans ?_)
    rw [val_main_v24_apply, val_main_v21_apply, first_choice idx t a ha]
    exact wrap_small (by have := a.isLt; omega) _

include hb in
/-- The second choice's probability. -/
theorem ref_second (x : FVec Ideal S512x256 .f32) (rw : FVec Ideal S256x64 .f32) :
    val_main_v42 (F := Ideal) x rw idx (ix1 t) = prob x rw t b := by
  rw [← ref_prob]
  refine pick_apply _ _ t t b ?_ ?_
  · refine (pair_apply t _ _ concatenates_S512x1_S512x1_S512x2_d1).1.trans ((column_of_list t _).trans ?_)
    exact wrap_small (n := t.val) (by have := t.isLt; omega) _
  · refine (pair_apply t _ _ concatenates_S512x1_S512x1_S512x2_d1).2.trans ((column_of_list t _).trans ?_)
    rw [val_main_v38_apply, val_main_v35_apply, second_choice idx t b hb]
    exact wrap_small (by have := b.isLt; omega) _

include ha in
/-- The product of a token with the expert of its first choice. -/
theorem ref_product_first (x : FVec Ideal S512x256 .f32) (W : FVec Ideal S64x256x512 .f32) (o : Fin 512) :
    val_main_v51 (F := Ideal) x idx W (ix2 t o) = expert (fun k => x (ix2 t k)) (fun e k => W (ix3 e k o)) a := by
  rw [val_main_v51_apply]
  refine Finset.sum_congr rfl fun k _ => congrArg₂ (· * ·) (congrArg x (idx2_ext rfl rfl)) ?_
  rw [show ridx_main_v51 (ix2 t o) k = ix3 t k o from idx3_ext rfl rfl rfl]
  refine expert_apply W _ t a ?_ k o
  refine (column_of_list t _).trans ?_
  rw [val_main_v48_apply, val_main_v45_apply, first_choice idx t a ha]
  exact wrap_small (by have := a.isLt; omega) _

include hb in
/-- The product of a token with the expert of its second choice. -/
theorem ref_product_second (x : FVec Ideal S512x256 .f32) (W : FVec Ideal S64x256x512 .f32) (o : Fin 512) :
    val_main_v59 (F := Ideal) x idx W (ix2 t o) = expert (fun k => x (ix2 t k)) (fun e k => W (ix3 e k o)) b := by
  rw [val_main_v59_apply]
  refine Finset.sum_congr rfl fun k _ => congrArg₂ (· * ·) (congrArg x (idx2_ext rfl rfl)) ?_
  rw [show ridx_main_v59 (ix2 t o) k = ix3 t k o from idx3_ext rfl rfl rfl]
  refine expert_apply W _ t b ?_ k o
  refine (column_of_list t _).trans ?_
  rw [val_main_v56_apply, val_main_v53_apply, second_choice idx t b hb]
  exact wrap_small (by have := b.isLt; omega) _

include ha hb in
/-- The reference's result: for every token and output, the mixture of the two chosen experts' products, each weighted by
its share of the two probabilities. -/
theorem ref_apply (x : FVec Ideal S512x256 .f32) (rw : FVec Ideal S256x64 .f32) (W : FVec Ideal S64x256x512 .f32) (o : Fin 512) :
    val_main_v68 (F := Ideal) x rw idx W (ix2 t o) =
      Ideal.div (prob x rw t a) (prob x rw t a + prob x rw t b) * expert (fun k => x (ix2 t k)) (fun e k => W (ix3 e k o)) a
      + Ideal.div (prob x rw t b) (prob x rw t a + prob x rw t b) * expert (fun k => x (ix2 t k)) (fun e k => W (ix3 e k o)) b := by
  have hs : val_main_v43 (F := Ideal) x rw idx (ix1 t) = prob x rw t a + prob x rw t b := by
    rw [val_main_v43_apply, ref_first idx t a ha, ref_second idx t b hb]
    rfl
  have h1 : val_main_v62 (F := Ideal) x rw idx (ix2 t o) = Ideal.div (prob x rw t a) (prob x rw t a + prob x rw t b) := by
    rw [val_main_v62_apply, val_main_v61_apply, show idx_main_v61 (idx_main_v62 (ix2 t o)) = ix1 t from eq_ix1 _,
      val_main_v60_apply, hs, ref_first idx t a ha]
    rfl
  have h2 : val_main_v66 (F := Ideal) x rw idx (ix2 t o) = Ideal.div (prob x rw t b) (prob x rw t a + prob x rw t b) := by
    rw [val_main_v66_apply, val_main_v65_apply, show idx_main_v65 (idx_main_v66 (ix2 t o)) = ix1 t from eq_ix1 _,
      val_main_v64_apply, hs, ref_second idx t b hb]
    rfl
  rw [val_main_v68_apply, val_main_v63_apply, val_main_v67_apply, h1, h2, ref_product_first idx t a ha, ref_product_second idx t b hb]
  rfl

end Choices

end Cert.Exchange

end
-- ==== Proof.Value.lean ====
/-
# The value of the exchange

Under the precondition each device returns its 32 rows of the reference's result.
-/
module

public import proofs.«01_k».proof.Proof.Frames
public import proofs.«01_k».proof.Proof.Plain
public import proofs.«01_k».proof.Proof.Gen.Pre_routable_KernelIdeal
public import Idealize.ShloMosaic.Lib.ReduceAll

@[expose] public section

noncomputable section

namespace Cert.Exchange

open Cert.KernelIdeal Cert.KernelIdeal.Gen

open Idealize.ShloMosaic
open Idealize.ShloMosaic.TcCoe
open Idealize.SL Idealize.SL.Sem
open Idealize.ShloMosaic.ValueIdx
open Idealize.ShloMosaic.Shape (idx3_ext)
open scoped BigOperators

/-! ### The precondition -/

/-- A value whose absolute value is below +∞ is real. -/
theorem real_of_abs_lt (v : Ideal .f32)
    (h : FloatOps.cmpf .olt (FloatOps.hostAbsf v) (FloatOps.ofBits (F := Ideal) .f32 0x7F800000#32) = 1#1) :
    ∃ r : ℝ, (v : EReal) = r := by
  have htop : Ideal.ofBits .f32 0x7F800000#32 = ⊤ := by simp [Ideal.ofBits, Ideal.ieee]
  have h' : Ideal.cmp .olt (max (v : EReal) (-(v : EReal))) (Ideal.ofBits .f32 0x7F800000#32) = 1#1 := h
  rw [htop] at h'
  have hlt : max (v : EReal) (-(v : EReal)) < ⊤ := by
    by_contra hn
    simp [Ideal.cmp, hn] at h'
  rw [max_lt_iff] at hlt
  induction v using EReal.rec with
  | bot => simp at hlt
  | top => simp at hlt
  | coe r => exact ⟨r, rfl⟩

/-- A word between 0 and 64, read signed, is the word of an expert's number. -/
theorem expert_of_range (w : BitVec 32) (h : IntOp.andi (IntOp.cmpi .sge w 0#32) (IntOp.cmpi .slt w 64#32) = 1#1) :
    ∃ e : Fin 64, w = BitVec.ofNat 32 e.val := by
  obtain ⟨h0, h1⟩ := IntOp.andi_eq_one.1 h
  have h0' := IntOp.cmpi_sge.1 h0
  have h1' := IntOp.cmpi_slt.1 h1
  have e0 : (0#32 : BitVec 32).toInt = 0 := rfl
  have e1 : (64#32 : BitVec 32).toInt = 64 := rfl
  rw [e0] at h0'
  rw [e1] at h1'
  have hw : w.toInt = (w.toNat : Int) := by
    rw [BitVec.toInt_eq_toNat_cond] at h0' ⊢
    have := w.isLt
    split_ifs at h0' ⊢ <;> omega
  refine ⟨⟨w.toNat, by omega⟩, ?_⟩
  simp

/-- A scalar has one index. -/
instance : Subsingleton Cert.Pre_routable_KernelIdeal.S_.Idx := ⟨fun i j => funext fun a => a.elim0⟩

/-- What the precondition says of one device's arguments: tokens and router are real, and every choice is the number of an
expert. -/
theorem routable_says (x : FVec Ideal S512x256 .f32) (rw : FVec Ideal S256x64 .f32) (idx : IVec S512x2 32)
    (ew : FVec Ideal S4x256x512 .f32)
    (h : Cert.Pre_routable_KernelIdeal.fn (F := Ideal) x rw idx ew = fun _ => 1#1) :
    (∀ i, ∃ r : ℝ, x i = (r : EReal)) ∧ (∀ i, ∃ r : ℝ, rw i = (r : EReal)) ∧ ∀ i, ∃ e : Fin 64, idx i = BitVec.ofNat 32 e.val := by
  have h0 := congrFun h ix0
  unfold Cert.Pre_routable_KernelIdeal.fn at h0
  obtain ⟨hi, hf⟩ := IntOp.andi_eq_one.1 h0
  obtain ⟨hx, hw⟩ := IntOp.andi_eq_one.1 hf
  exact ⟨fun i => real_of_abs_lt _ (Host.reduce_andi_all _ _ _ _ ix0 hx i),
    fun i => real_of_abs_lt _ (Host.reduce_andi_all _ _ _ _ ix0 hw i),
    fun i => expert_of_range _ (Host.reduce_andi_all _ _ _ _ ix0 hi i)⟩

/-! ### The sum over the devices -/

section Sum

variable (m : (ℓ : Loc nD τ sig) → Buf (Elt Ideal) ℓ) (ρ : Dev nD → PrngReg)

/-- The sum over the slots. -/
theorem slots_apply (v : FVec Ideal S15x32x512 .f32) (i : Fin 32) (o : Fin 512) :
    multiReduction .add [0] S32x512 v 0x00000000#32 reduces_S15x32x512_S32x512 (.inl rfl) rfl (ix2 i o)
      = ∑ r : Fin 15, v (ix3 r i o) := by
  refine (Ideal.multiReduction_add_single v _ _ _ _ (ix2 i o)).trans ?_
  exact Finset.sum_congr rfl fun r _ => congrArg v (idx3_ext rfl rfl rfl)

/-- What a device computes before the exchange, as a matrix. -/
def accVec (d : Dev nD) : FVec Ideal S512x512 .f32 := accAt (F := Ideal) m ρ d

/-- What a device returns, as a matrix. -/
def outVec (d : Dev nD) : FVec Ideal S32x512 .f32 := outAt (F := Ideal) m ρ d

/-- What a device returns: for each of its rows, the sum over all devices of what they computed. -/
theorem out_apply (c : Dev nD) (i : Fin 32) (o : Fin 512) :
    outVec m ρ c (ix2 i o) = ∑ d : Dev nD, accVec m ρ d (ix2 (rowOf c i) o) := by
  have hown : accM.view.readAt (Elt Ideal) (Rect.unit (s := S512x512) (k0_off2 c) S32x512.size (k0_off2_inb c)).toLoadRect
      (accAt (F := Ideal) m ρ c) (ix2 i o) = accVec m ρ c (ix2 (rowOf c i) o) := by
    show accVec m ρ c _ = _
    refine congrArg (accVec m ρ c) (idx2_ext ?_ ?_)
    · show k0_off2 c 0 + 1 * i.val = 32 * c.val + i.val
      rw [k0_off2_eq]
      simp
    · show k0_off2 c 1 + 1 * o.val = o.val
      rw [k0_off2_eq]
      simp
  rw [← Finset.add_sum_erase Finset.univ _ (Finset.mem_univ c), others_up c,
    Finset.sum_image (fun r _ r' _ h => up_inj c r r' h), ← hown]
  exact congrArg (_ + ·) (slots_apply (comAt (F := Ideal) m ρ c) i o)

/-- Summing over the devices and their four experts is summing over all 64 experts. -/
theorem sum_experts (f : Fin 64 → EReal) : ∑ d : Dev nD, ∑ j : Fin 4, f (expertNo d j) = ∑ e : Fin 64, f e := by
  rw [← Fintype.sum_prod_type']
  refine Fintype.sum_equiv (finProdFinEquiv (m := 16) (n := 4)) _ _ fun p => congrArg f (Fin.ext ?_)
  show 4 * p.1.val + p.2.val = p.2.val + 4 * p.1.val
  omega

/-- Expert `j` of device `d`, in the whole array of experts. -/
theorem block_expert (W : FVec Ideal ⟨3, ![64, 256, 512]⟩ .f32) (d : Dev nD) (j : Fin 4) (k : Fin 256) (o : Fin 512) :
    Layout.block ⟨3, ![4, 256, 512]⟩ ⟨3, ![64, 256, 512]⟩ 0 16 d W (by decide) (ix3 j k o) = W (ix3 (expertNo d j) k o) := by
  rw [Layout.block_apply]
  refine congrArg W (idx3_ext ?_ rfl rfl)
  show d.val * 4 + j.val = 4 * d.val + j.val
  omega

/-- The kernel's result, row by row, from the arguments alone. -/
theorem out_eq (x : FVec Ideal S512x256 .f32) (rw : FVec Ideal S256x64 .f32) (idx : IVec S512x2 32)
    (W : FVec Ideal ⟨3, ![64, 256, 512]⟩ .f32)
    (hx : ∀ d, xAt (F := Ideal) m ρ d = x) (hrw : ∀ d, rwAt (F := Ideal) m ρ d = rw) (hidx : ∀ d, idxAt (F := Ideal) m ρ d = idx)
    (hW : ∀ d : Dev nD, ewAt (F := Ideal) m ρ d = Layout.block ⟨3, ![4, 256, 512]⟩ ⟨3, ![64, 256, 512]⟩ 0 16 d W (by decide))
    (xr : ∀ i, ∃ r : ℝ, x i = (r : EReal)) (rwr : ∀ i, ∃ r : ℝ, rw i = (r : EReal))
    (named : ∀ i, ∃ e : Fin 64, idx i = BitVec.ofNat 32 e.val) (c : Dev nD) :
    outVec m ρ c
      = Layout.block ⟨2, ![32, 512]⟩ ⟨2, ![512, 512]⟩ 0 16 c (Cert.ReferenceIdeal.Read.val_main_v68 (F := Ideal) x rw idx W) (by decide) := by
  funext i
  obtain ⟨r, o, rfl⟩ : ∃ (r : Fin 32) (o : Fin 512), i = ix2 r o := ⟨i 0, i 1, eq_ix2 i⟩
  obtain ⟨a, ha⟩ := named (ix2 (rowOf c r) 0)
  obtain ⟨b, hb⟩ := named (ix2 (rowOf c r) 1)
  have hblock : Layout.block ⟨2, ![32, 512]⟩ ⟨2, ![512, 512]⟩ 0 16 c (Cert.ReferenceIdeal.Read.val_main_v68 (F := Ideal) x rw idx W)
      (by decide) (ix2 r o) = Cert.ReferenceIdeal.Read.val_main_v68 (F := Ideal) x rw idx W (ix2 (rowOf c r) o) := by
    rw [Layout.block_apply]
    refine congrArg _ (idx2_ext ?_ rfl)
    show c.val * 32 + r.val = 32 * c.val + r.val
    omega
  rw [hblock, ref_apply idx (rowOf c r) a b ha hb x rw W o, out_apply,
    ← mix_eq (prob x rw (rowOf c r)) (prob_pos xr rwr _) a b (fun k => x (ix2 (rowOf c r) k)) (fun e k => W (ix3 e k o)),
    ← sum_experts]
  refine Finset.sum_congr rfl fun d _ => ?_
  unfold accVec accAt
  rw [hx, hrw, hidx, hW, partialSum_apply d x rw idx _ (rowOf c r) o a b ha hb]
  simp only [block_expert]

/-! ### The arguments as the body sees them -/

/-- The body's view of the tokens is the whole argument array. -/
theorem xAt_eq (c : Dev nD) : xAt (F := Ideal) m ρ c = m ((c.tc : Thread nD τ).loc main_arg0) :=
  Memref.read_access_unit_zero (Elt Ideal) main_arg0
    (show (fun a => win0_0.index (0 : Fin 1) a * main_arg0.ty.shape.size a) = fun _ => 0 from funext fun a => by fin_cases a <;> decide)
    (fun a => by fin_cases a <;> decide) _

/-- The body's view of the router is the whole argument array. -/
theorem rwAt_eq (c : Dev nD) : rwAt (F := Ideal) m ρ c = m ((c.tc : Thread nD τ).loc main_arg1) :=
  Memref.read_access_unit_zero (Elt Ideal) main_arg1
    (show (fun a => win0_1.index (0 : Fin 1) a * main_arg1.ty.shape.size a) = fun _ => 0 from funext fun a => by fin_cases a <;> decide)
    (fun a => by fin_cases a <;> decide) _

/-- The body's view of the choices is the whole argument array. -/
theorem idxAt_eq (c : Dev nD) : idxAt (F := Ideal) m ρ c = m ((c.tc : Thread nD τ).loc main_arg2) :=
  Memref.read_access_unit_zero (Elt Ideal) main_arg2
    (show (fun a => win0_2.index (0 : Fin 1) a * main_arg2.ty.shape.size a) = fun _ => 0 from funext fun a => by fin_cases a <;> decide)
    (fun a => by fin_cases a <;> decide) _

/-- The body's view of the experts the device keeps is the whole argument array. -/
theorem ewAt_eq (c : Dev nD) : ewAt (F := Ideal) m ρ c = m ((c.tc : Thread nD τ).loc main_arg3) :=
  Memref.read_access_unit_zero (Elt Ideal) main_arg3
    (show (fun a => win0_3.index (0 : Fin 1) a * main_arg3.ty.shape.size a) = fun _ => 0 from funext fun a => by fin_cases a <;> decide)
    (fun a => by fin_cases a <;> decide) _

end Sum

/-! ### The claim -/

/-- From memories that hold the same arguments, under the precondition, the kernel's devices end holding the blocks of rows
of the reference's result, and the arguments of both end unchanged. -/
theorem algebraic : Cert.algebraic_KernelIdeal_ReferenceIdeal_pre_routable_KernelIdeal := by
  intro m g m' g' hpre hagree
  obtain ⟨xr, rwr, named⟩ := routable_says _ _ _ _ (hpre 0)
  rw [(hagree 0).1] at xr
  rw [(hagree 0).2.1] at rwr
  rw [(hagree 0).2.2.1] at named
  refine ⟨Cert.ReferenceIdeal.Value.res_main_v68 m' 0, ?_, ?_⟩
  · refine (θ_run defs _ _).mono (fun r h c => ⟨(h.1 c).1.trans ?_, (h.1 c).2⟩) (run_out (F := Ideal) m g)
    rw [Cert.ReferenceIdeal.Read.val_main_v68_eq]
    exact out_eq m g _ _ _ _ (fun d => (xAt_eq m g d).trans (hagree d).1) (fun d => (rwAt_eq m g d).trans (hagree d).2.1)
      (fun d => (idxAt_eq m g d).trans (hagree d).2.2.1) (fun d => (ewAt_eq m g d).trans (hagree d).2.2.2) xr rwr named c
  · exact (θ_run Cert.ReferenceIdeal.defs _ _).mono (fun _ h => h 0) (Cert.ReferenceIdeal.Value.run (F := Ideal) m' g')

end Cert.Exchange

end
-- ==== Proof.lean ====
/-
# The certificate of the expert layer's exchange

The proofs are in the modules imported here; this file puts them together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_routable_KernelIdeal
public import proofs.«01_k».proof.Proof.Gen.Pre_routable_ReferenceIdeal
public import proofs.«01_k».proof.Proof.Frames
public import proofs.«01_k».proof.Proof.Value

@[expose] public section

noncomputable section

namespace Cert.Proof

/-- Everything the certificate claims. -/
theorem claim : Cert.Claim :=
  ⟨Cert.Kernel.Gen.facts, Cert.KernelIdeal.Gen.facts, Cert.ReferenceIdeal.Gen.facts,
    Cert.Pre_routable_KernelIdeal.Gen.facts, Cert.Pre_routable_ReferenceIdeal.Gen.facts,
    Cert.Exchange.frame_kernel, Cert.Exchange.frame_ideal,
    fun m ρ _ => Cert.Exchange.run_frame (F := Idealize.ShloMosaic.Ideal) m ρ,
    Cert.Exchange.frame_reference, fun m ρ _ => Cert.Exchange.run_reference m ρ,
    trivial, Cert.Exchange.algebraic⟩

end Cert.Proof

end
